-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x512 : Shape := ⟨3, ![16, 128, 512]⟩
abbrev S128x128 : Shape := ⟨2, ![128, 128]⟩
abbrev S512x16x128 : Shape := ⟨3, ![512, 16, 128]⟩
abbrev S128 : Shape := ⟨1, ![128]⟩
abbrev S1x128 : Shape := ⟨2, ![1, 128]⟩
abbrev S128x1 : Shape := ⟨2, ![128, 1]⟩
abbrev S_ : Shape := ⟨0, ![]⟩
abbrev S128x128x1 : Shape := ⟨3, ![128, 128, 1]⟩
abbrev S1 : Shape := ⟨1, ![1]⟩
abbrev S1x1x1 : Shape := ⟨3, ![1, 1, 1]⟩
abbrev S512x16 : Shape := ⟨2, ![512, 16]⟩
abbrev S16x512 : Shape := ⟨2, ![16, 512]⟩
abbrev S128x16x128 : Shape := ⟨3, ![128, 16, 128]⟩
abbrev S2x128x16x128 : Shape := ⟨4, ![2, 128, 16, 128]⟩
abbrev S16x128 : Shape := ⟨2, ![16, 128]⟩
abbrev S1x16x128 : Shape := ⟨3, ![1, 16, 128]⟩
abbrev S1x1x16x128 : Shape := ⟨4, ![1, 1, 16, 128]⟩
abbrev S16 : Shape := ⟨1, ![16]⟩
abbrev S16x1 : Shape := ⟨2, ![16, 1]⟩
abbrev S1x16 : Shape := ⟨2, ![1, 16]⟩

abbrev nBuf : Space → Nat
  | .hbm => 58
  | .vmem => 8
  | .smem => 0
  | _ => 0

abbrev bufTy : (tb : Table) → Fin (tcTables nBuf tb) → BufTy
  | .hbm, ⟨0, _⟩ => ⟨S16x128x512, .f32⟩
  | .hbm, ⟨1, _⟩ => ⟨S128x128, .f32⟩
  | .hbm, ⟨2, _⟩ => ⟨S512x16x128, .f32⟩
  | .hbm, ⟨3, _⟩ => ⟨S128, .i32⟩
  | .hbm, ⟨4, _⟩ => ⟨S1x128, .i32⟩
  | .hbm, ⟨5, _⟩ => ⟨S128x1, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i1⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S128x128x1, .i32⟩
  | .hbm, ⟨40, _⟩ => ⟨S1, .i32⟩
  | .hbm, ⟨41, _⟩ => ⟨S_, .i32⟩
  | .hbm, ⟨42, _⟩ => ⟨S128x128x1, .i32⟩
  | .hbm, ⟨43, _⟩ => ⟨S128x128x1, .i1⟩
  | .hbm, ⟨44, _⟩ => ⟨S1x1x1, .i32⟩
  | .hbm, ⟨45, _⟩ => ⟨S128x128x1, .i32⟩
  | .hbm, ⟨46, _⟩ => ⟨S128x128x1, .i1⟩
  | .hbm, ⟨47, _⟩ => ⟨S128x128x1, .i1⟩
  | .hbm, ⟨48, _⟩ => ⟨S_, .i1⟩
  | .hbm, ⟨49, _⟩ => ⟨S128x128, .i1⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S512x16, .i32⟩
  | .hbm, ⟨57, _⟩ => ⟨S16x512, .i32⟩
  | .local _ .vmem, ⟨0, _⟩ => ⟨S512x16x128, .f32⟩
  | .local _ .vmem, ⟨1, _⟩ => ⟨S128x128, .f32⟩
  | .local _ .vmem, ⟨2, _⟩ => ⟨S128x128, .f32⟩
  | .local _ .vmem, ⟨3, _⟩ => ⟨S512x16, .i32⟩
  | .local _ .vmem, ⟨4, _⟩ => ⟨S512x16x128, .i32⟩
  | .local _ .vmem, ⟨5, _⟩ => ⟨S128x16x128, .f32⟩
  | .local _ .vmem, ⟨6, _⟩ => ⟨S128x16x128, .f32⟩
  | .local _ .vmem, ⟨7, _⟩ => ⟨S2x128x16x128, .f32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_c : Ref sig .tc := ⟨.hbm, 9, rfl⟩
abbrev main_call0_call0_v0 : Ref sig .tc := ⟨.hbm, 10, rfl⟩
abbrev main_call0_call0_c : Ref sig .tc := ⟨.hbm, 11, rfl⟩
abbrev main_call0_call0_v1 : Ref sig .tc := ⟨.hbm, 12, rfl⟩
abbrev main_call0_call0_c_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c_1 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_2 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c_3 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_v7 : Ref sig .tc := ⟨.hbm, 30, rfl⟩
abbrev main_call0_v8 : Ref sig .tc := ⟨.hbm, 31, rfl⟩
abbrev main_call0_call1_c : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_call1_c_0 : Ref sig .tc := ⟨.hbm, 35, rfl⟩
abbrev main_call0_call1_v2 : Ref sig .tc := ⟨.hbm, 36, rfl⟩
abbrev main_call0_call1_v3 : Ref sig .tc := ⟨.hbm, 37, rfl⟩
abbrev main_call0_call1_v4 : Ref sig .tc := ⟨.hbm, 38, rfl⟩
abbrev main_call0_call1_v5 : Ref sig .tc := ⟨.hbm, 39, rfl⟩
abbrev main_call0_call1_c_1 : Ref sig .tc := ⟨.hbm, 40, rfl⟩
abbrev main_call0_call1_c_2 : Ref sig .tc := ⟨.hbm, 41, rfl⟩
abbrev main_call0_call1_v6 : Ref sig .tc := ⟨.hbm, 42, rfl⟩
abbrev main_call0_call1_v7 : Ref sig .tc := ⟨.hbm, 43, rfl⟩
abbrev main_call0_call1_v8 : Ref sig .tc := ⟨.hbm, 44, rfl⟩
abbrev main_call0_call1_v9 : Ref sig .tc := ⟨.hbm, 45, rfl⟩
abbrev main_call0_call1_v10 : Ref sig .tc := ⟨.hbm, 46, rfl⟩
abbrev main_call0_call1_v11 : Ref sig .tc := ⟨.hbm, 47, rfl⟩
abbrev main_call0_call1_c_3 : Ref sig .tc := ⟨.hbm, 48, rfl⟩
abbrev main_call0_call1_v12 : Ref sig .tc := ⟨.hbm, 49, rfl⟩
abbrev main_call0_call1_v13 : Ref sig .tc := ⟨.hbm, 50, rfl⟩
abbrev main_call0_call1_cst : Ref sig .tc := ⟨.hbm, 51, rfl⟩
abbrev main_call0_call1_v14 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_v0 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c1_i32_3077 : BitVec 32 := 1#32
  let c255_i32 : BitVec 32 := 255#32
  let v4099 : BitVec 32 := Scalar.addi c1_i32_3077 c255_i32
  let c1_i32_3078 : BitVec 32 := 1#32
  ⟨c1_i32_3077, v4099, c1_i32_3078⟩
def k0_off1 (k0_t1 : Fin k0_t1_loop.trips) (c2_i32_5138 : BitVec 32) : Fin 3 → Nat :=
  let c2_i32_5137 : BitVec 32 := 2#32
  let c1_i32_3077 : BitVec 32 := 1#32
  let c1_i32_3078 : BitVec 32 := 1#32
  let arg8 : BitVec 32 := Scf.iv c1_i32_3077 c1_i32_3078 k0_t1
  let v6166 : BitVec 32 := Scalar.muli c2_i32_5137 arg8
  let v6167 : BitVec 32 := Scalar.subi v6166 c2_i32_5138
  let v7192 : Index := Scalar.indexCast v6167
  let c0_6163 : Index := 0#32
  let c0_6164 : Index := 0#32
  ![v7192.toNat, 0, 0]
def k0_off2 (k0_t1 : Fin k0_t1_loop.trips) : Fin 3 → Nat :=
  let c2_i32_5137 : BitVec 32 := 2#32
  let c1_i32_3077 : BitVec 32 := 1#32
  let c1_i32_3078 : BitVec 32 := 1#32
  let arg8 : BitVec 32 := Scf.iv c1_i32_3077 c1_i32_3078 k0_t1
  let v6166 : BitVec 32 := Scalar.muli c2_i32_5137 arg8
  let v8225 : Index := Scalar.indexCast v6166
  let c0_7192 : Index := 0#32
  let c0_7193 : Index := 0#32
  ![v8225.toNat, 0, 0]
def k0_off3 (k0_t1 : Fin k0_t1_loop.trips) : Fin 3 → Nat :=
  let c2_i32_5137 : BitVec 32 := 2#32
  let c1_i32_3077 : BitVec 32 := 1#32
  let c1_i32_3078 : BitVec 32 := 1#32
  let arg8 : BitVec 32 := Scf.iv c1_i32_3077 c1_i32_3078 k0_t1
  let v6166 : BitVec 32 := Scalar.muli c2_i32_5137 arg8
  let c1_i32_8217 : BitVec 32 := 1#32
  let v9251 : BitVec 32 := Scalar.addi v6166 c1_i32_8217
  let v9252 : Index := Scalar.indexCast v9251
  let c0_8218 : Index := 0#32
  let c0_8219 : Index := 0#32
  ![v9252.toNat, 0, 0]
@[reducible] def k0_t2_loop : Scf.Loop 32 :=
  let c0_i32 : BitVec 32 := 0#32
  let c64_i32_5134 : BitVec 32 := 64#32
  let v6164 : BitVec 32 := Scalar.addi c0_i32 c64_i32_5134
  let c1_i32_5135 : BitVec 32 := 1#32
  ⟨c0_i32, v6164, c1_i32_5135⟩
def k0_off4 (k0_t2 : Fin k0_t2_loop.trips) (c0_i32_5138 : BitVec 32) : Fin 3 → Nat :=
  let c511_i32 : BitVec 32 := 511#32
  let c8_i32_5137 : BitVec 32 := 8#32
  let c0_i32 : BitVec 32 := 0#32
  let c1_i32_5135 : BitVec 32 := 1#32
  let arg8 : BitVec 32 := Scf.iv c0_i32 c1_i32_5135 k0_t2
  let v6166 : BitVec 32 := Scalar.muli c8_i32_5137 arg8
  let v6167 : BitVec 32 := Scalar.addi v6166 c0_i32_5138
  let v6168 : BitVec 32 := Scalar.subi c511_i32 v6167
  let v6169 : Index := Scalar.indexCast v6168
  let c0_5139 : Index := 0#32
  let c0_5140 : Index := 0#32
  ![v6169.toNat, 0, 0]
def k0_off5 (k0_t2 : Fin k0_t2_loop.trips) (c0_i32_5138 : BitVec 32) : Fin 2 → Nat :=
  let c511_i32 : BitVec 32 := 511#32
  let c8_i32_5137 : BitVec 32 := 8#32
  let c0_i32 : BitVec 32 := 0#32
  let c1_i32_5135 : BitVec 32 := 1#32
  let arg8 : BitVec 32 := Scf.iv c0_i32 c1_i32_5135 k0_t2
  let v6166 : BitVec 32 := Scalar.muli c8_i32_5137 arg8
  let v6167 : BitVec 32 := Scalar.addi v6166 c0_i32_5138
  let v6168 : BitVec 32 := Scalar.subi c511_i32 v6167
  let v6179 : Index := Scalar.indexCast v6168
  let c0_5143 : Index := 0#32
  ![v6179.toNat, 0]
abbrev stage0_0 : Fin 1 → Memref sig .tc .vmem S512x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x128x512 : Shape := ⟨3, ![16, 128, 512]⟩
abbrev S128x128 : Shape := ⟨2, ![128, 128]⟩
abbrev S512x16x128 : Shape := ⟨3, ![512, 16, 128]⟩
abbrev S_ : Shape := ⟨0, ![]⟩
abbrev S16x128 : Shape := ⟨2, ![16, 128]⟩
abbrev S512x16 : Shape := ⟨2, ![512, 16]⟩
abbrev S1x16x128 : Shape := ⟨3, ![1, 16, 128]⟩
abbrev S16x1x128 : Shape := ⟨3, ![16, 1, 128]⟩
abbrev S1x128x128 : Shape := ⟨3, ![1, 128, 128]⟩
abbrev S16x128x128 : Shape := ⟨3, ![16, 128, 128]⟩
abbrev S16 : Shape := ⟨1, ![16]⟩
abbrev S1x16 : Shape := ⟨2, ![1, 16]⟩
abbrev S512 : Shape := ⟨1, ![512]⟩
abbrev S1 : Shape := ⟨1, ![1]⟩
abbrev S16x1 : Shape := ⟨2, ![16, 1]⟩
abbrev S16x1x1 : Shape := ⟨3, ![16, 1, 1]⟩
abbrev S1x1x1 : Shape := ⟨3, ![1, 1, 1]⟩
abbrev S16x512 : Shape := ⟨2, ![16, 512]⟩

abbrev nBuf : Space → Nat
  | .hbm => 115
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S128x128, .f32⟩
  | .hbm, ⟨2, _⟩ => ⟨S512x16x128, .f32⟩
  | .hbm, ⟨3, _⟩ => ⟨S_, .f32⟩
  | .hbm, ⟨4, _⟩ => ⟨S16x128, .f32⟩
  | .hbm, ⟨5, _⟩ => ⟨S_, .i32⟩
  | .hbm, ⟨6, _⟩ => ⟨S512x16x128, .i32⟩
  | .hbm, ⟨7, _⟩ => ⟨S_, .i32⟩
  | .hbm, ⟨8, _⟩ => ⟨S512x16, .i32⟩
  | .hbm, ⟨9, _⟩ => ⟨S_, .i32⟩
  | .hbm, ⟨10, _⟩ => ⟨S512x16x128, .f32⟩
  | .hbm, ⟨11, _⟩ => ⟨S128x128, .f32⟩
  | .hbm, ⟨12, _⟩ => ⟨S_, .i32⟩
  | .hbm, ⟨13, _⟩ => ⟨S16x128, .f32⟩
  | .hbm, ⟨14, _⟩ => ⟨S512x16x128, .i32⟩
  | .hbm, ⟨15, _⟩ => ⟨S512x16, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x16x128, .f32⟩
  | .hbm, ⟨21, _⟩ => ⟨S16x128, .f32⟩
  | .hbm, ⟨22, _⟩ => ⟨S16x1x128, .f32⟩
  | .hbm, ⟨23, _⟩ => ⟨S1x128x128, .f32⟩
  | .hbm, ⟨24, _⟩ => ⟨S16x128x128, .f32⟩
  | .hbm, ⟨25, _⟩ => ⟨S16x128x128, .f32⟩
  | .hbm, ⟨26, _⟩ => ⟨S16x128x128, .f32⟩
  | .hbm, ⟨27, _⟩ => ⟨S16x128x128, .i32⟩
  | .hbm, ⟨28, _⟩ => ⟨S_, .f32⟩
  | .hbm, ⟨29, _⟩ => ⟨S_, .i32⟩
  | .hbm, ⟨30, _⟩ => ⟨S16x128, .f32⟩
  | .hbm, ⟨31, _⟩ => ⟨S16x128, .i32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .i32⟩
  | .hbm, ⟨36, _⟩ => ⟨S_, .f32⟩
  | .hbm, ⟨37, _⟩ => ⟨S_, .i32⟩
  | .hbm, ⟨38, _⟩ => ⟨S16, .f32⟩
  | .hbm, ⟨39, _⟩ => ⟨S16, .i32⟩
  | .hbm, ⟨40, _⟩ => ⟨S1x16x128, .i32⟩
  | .hbm, ⟨41, _⟩ => ⟨S_, .i32⟩
  | .hbm, ⟨42, _⟩ => ⟨S_, .i32⟩
  | .hbm, ⟨43, _⟩ => ⟨S512x16x128, .i32⟩
  | .hbm, ⟨44, _⟩ => ⟨S1x16, .i32⟩
  | .hbm, ⟨45, _⟩ => ⟨S_, .i32⟩
  | .hbm, ⟨46, _⟩ => ⟨S512x16, .i32⟩
  | .hbm, ⟨47, _⟩ => ⟨S_, .i32⟩
  | .hbm, ⟨48, _⟩ => ⟨S_, .i32⟩
  | .hbm, ⟨49, _⟩ => ⟨S512x16x128, .i32⟩
  | .hbm, ⟨50, _⟩ => ⟨S512x16, .i32⟩
  | .hbm, ⟨51, _⟩ => ⟨S512, .i32⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S16, .i32⟩
  | .hbm, ⟨63, _⟩ => ⟨S_, .i32⟩
  | .hbm, ⟨64, _⟩ => ⟨S512x16, .i32⟩
  | .hbm, ⟨65, _⟩ => ⟨S_, .i32⟩
  | .hbm, ⟨66, _⟩ => ⟨S512x16x128, .i32⟩
  | .hbm, ⟨67, _⟩ => ⟨S512x16, .i32⟩
  | .hbm, ⟨68, _⟩ => ⟨S512, .i1⟩
  | .hbm, ⟨69, _⟩ => ⟨S_, .i32⟩
  | .hbm, ⟨70, _⟩ => ⟨S16, .i32⟩
  | .hbm, ⟨71, _⟩ => ⟨S512x16, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S1x16x128, .i32⟩
  | .hbm, ⟨77, _⟩ => ⟨S16x128, .i32⟩
  | .hbm, ⟨78, _⟩ => ⟨S_, .i32⟩
  | .hbm, ⟨79, _⟩ => ⟨S1x16, .i32⟩
  | .hbm, ⟨80, _⟩ => ⟨S16, .i32⟩
  | .hbm, ⟨81, _⟩ => ⟨S1, .i1⟩
  | .hbm, ⟨82, _⟩ => ⟨S_, .i1⟩
  | .hbm, ⟨83, _⟩ => ⟨S16, .i32⟩
  | .hbm, ⟨84, _⟩ => ⟨S16x1, .i32⟩
  | .hbm, ⟨85, _⟩ => ⟨S_, .i32⟩
  | .hbm, ⟨86, _⟩ => ⟨S16x1, .i32⟩
  | .hbm, ⟨87, _⟩ => ⟨S16x1, .i1⟩
  | .hbm, ⟨88, _⟩ => ⟨S_, .i32⟩
  | .hbm, ⟨89, _⟩ => ⟨S16x1, .i32⟩
  | .hbm, ⟨90, _⟩ => ⟨S16x1, .i32⟩
  | .hbm, ⟨91, _⟩ => ⟨S16x1, .i32⟩
  | .hbm, ⟨92, _⟩ => ⟨S16x1x1, .i32⟩
  | .hbm, ⟨93, _⟩ => ⟨S1, .i32⟩
  | .hbm, ⟨94, _⟩ => ⟨S_, .i32⟩
  | .hbm, ⟨95, _⟩ => ⟨S16x1x1, .i32⟩
  | .hbm, ⟨96, _⟩ => ⟨S16x1x1, .i1⟩
  | .hbm, ⟨97, _⟩ => ⟨S1x1x1, .i32⟩
  | .hbm, ⟨98, _⟩ => ⟨S16x1x1, .i32⟩
  | .hbm, ⟨99, _⟩ => ⟨S16x1x1, .i1⟩
  | .hbm, ⟨100, _⟩ => ⟨S16x1x1, .i1⟩
  | .hbm, ⟨101, _⟩ => ⟨S_, .i1⟩
  | .hbm, ⟨102, _⟩ => ⟨S16x1, .i1⟩
  | .hbm, ⟨103, _⟩ => ⟨S16x1, .i32⟩
  | .hbm, ⟨104, _⟩ => ⟨S_, .i32⟩
  | .hbm, ⟨105, _⟩ => ⟨S16x1, .i32⟩
  | .hbm, ⟨106, _⟩ => ⟨S16x1, .i32⟩
  | .hbm, ⟨107, _⟩ => ⟨S16, .i32⟩
  | .hbm, ⟨108, _⟩ => ⟨S1x16, .i32⟩
  | .hbm, ⟨109, _⟩ => ⟨S_, .i32⟩
  | .hbm, ⟨110, _⟩ => ⟨S512x16, .i32⟩
  | .hbm, ⟨111, _⟩ => ⟨S_, .i32⟩
  | .hbm, ⟨112, _⟩ => ⟨S_, .i32⟩
  | .hbm, ⟨113, _⟩ => ⟨S512x16, .i32⟩
  | .hbm, ⟨114, _⟩ => ⟨S16x512, .i32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_c_1 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_13 : Ref sig .tc := ⟨.hbm, 16, rfl⟩
abbrev main_while0c_v19 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v19 : Ref sig .tc := ⟨.hbm, 21, rfl⟩
abbrev main_while0b_v20 : Ref sig .tc := ⟨.hbm, 22, rfl⟩
abbrev main_while0b_v21 : Ref sig .tc := ⟨.hbm, 23, rfl⟩
abbrev main_while0b_v22 : Ref sig .tc := ⟨.hbm, 24, rfl⟩
abbrev main_while0b_v23 : Ref sig .tc := ⟨.hbm, 25, rfl⟩
abbrev main_while0b_v24 : Ref sig .tc := ⟨.hbm, 26, rfl⟩
abbrev main_while0b_call1_v0 : Ref sig .tc := ⟨.hbm, 27, rfl⟩
abbrev main_while0b_call1_cst : Ref sig .tc := ⟨.hbm, 28, rfl⟩
abbrev main_while0b_call1_c : Ref sig .tc := ⟨.hbm, 29, rfl⟩
abbrev main_while0b_call1_v1_0 : Ref sig .tc := ⟨.hbm, 30, rfl⟩
abbrev main_while0b_v25 : Ref sig .tc := ⟨.hbm, 31, rfl⟩
abbrev main_while0b_cst_13 : Ref sig .tc := ⟨.hbm, 32, rfl⟩
abbrev main_while0b_v26 : Ref sig .tc := ⟨.hbm, 33, rfl⟩
abbrev main_while0b_v27 : Ref sig .tc := ⟨.hbm, 34, rfl⟩
abbrev main_while0b_call2_v0 : Ref sig .tc := ⟨.hbm, 35, rfl⟩
abbrev main_while0b_call2_cst : Ref sig .tc := ⟨.hbm, 36, rfl⟩
abbrev main_while0b_call2_c : Ref sig .tc := ⟨.hbm, 37, rfl⟩
abbrev main_while0b_call2_v1_0 : Ref sig .tc := ⟨.hbm, 38, rfl⟩
abbrev main_while0b_v28 : Ref sig .tc := ⟨.hbm, 39, rfl⟩
abbrev main_while0b_call3_v0 : Ref sig .tc := ⟨.hbm, 40, rfl⟩
abbrev main_while0b_call3_c : Ref sig .tc := ⟨.hbm, 41, rfl⟩
abbrev main_while0b_call3_c_0 : Ref sig .tc := ⟨.hbm, 42, rfl⟩
abbrev main_while0b_v29 : Ref sig .tc := ⟨.hbm, 43, rfl⟩
abbrev main_while0b_call4_v0 : Ref sig .tc := ⟨.hbm, 44, rfl⟩
abbrev main_while0b_call4_c : Ref sig .tc := ⟨.hbm, 45, rfl⟩
abbrev main_while0b_v30 : Ref sig .tc := ⟨.hbm, 46, rfl⟩
abbrev main_while0b_c_14 : Ref sig .tc := ⟨.hbm, 47, rfl⟩
abbrev main_while0b_v31 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_c_2 : Ref sig .tc := ⟨.hbm, 52, rfl⟩
abbrev main_v8 : Ref sig .tc := ⟨.hbm, 53, rfl⟩
abbrev main_v9 : Ref sig .tc := ⟨.hbm, 54, rfl⟩
abbrev main_c_3 : Ref sig .tc := ⟨.hbm, 55, rfl⟩
abbrev main_v10 : Ref sig .tc := ⟨.hbm, 56, rfl⟩
abbrev main_v11 : Ref sig .tc := ⟨.hbm, 57, rfl⟩
abbrev main_c_4 : Ref sig .tc := ⟨.hbm, 58, rfl⟩
abbrev main_v12 : Ref sig .tc := ⟨.hbm, 59, rfl⟩
abbrev main_v13 : Ref sig .tc := ⟨.hbm, 60, rfl⟩
abbrev main_c_5 : Ref sig .tc := ⟨.hbm, 61, rfl⟩
abbrev main_v14 : Ref sig .tc := ⟨.hbm, 62, rfl⟩
abbrev main_c_6 : Ref sig .tc := ⟨.hbm, 63, rfl⟩
abbrev main_v15 : Ref sig .tc := ⟨.hbm, 64, rfl⟩
abbrev main_c_7 : Ref sig .tc := ⟨.hbm, 65, rfl⟩
abbrev main_v16_0 : Ref sig .tc := ⟨.hbm, 66, rfl⟩
abbrev main_v16_1 : Ref sig .tc := ⟨.hbm, 67, rfl⟩
abbrev main_v16_2 : Ref sig .tc := ⟨.hbm, 68, rfl⟩
abbrev main_v16_3 : Ref sig .tc := ⟨.hbm, 69, rfl⟩
abbrev main_v16_4 : Ref sig .tc := ⟨.hbm, 70, rfl⟩
abbrev main_v16_5 : Ref sig .tc := ⟨.hbm, 71, rfl⟩
abbrev main_while1c_c_13 : Ref sig .tc := ⟨.hbm, 72, rfl⟩
abbrev main_while1c_v19 : Ref sig .tc := ⟨.hbm, 73, rfl⟩
abbrev main_while1b_call5_c : Ref sig .tc := ⟨.hbm, 74, rfl⟩
abbrev main_while1b_call5_c_0 : Ref sig .tc := ⟨.hbm, 75, rfl⟩
abbrev main_while1b_call5_v0 : Ref sig .tc := ⟨.hbm, 76, rfl⟩
abbrev main_while1b_v19 : Ref sig .tc := ⟨.hbm, 77, rfl⟩
abbrev main_while1b_call6_c : Ref sig .tc := ⟨.hbm, 78, rfl⟩
abbrev main_while1b_call6_v0 : Ref sig .tc := ⟨.hbm, 79, rfl⟩
abbrev main_while1b_v20 : Ref sig .tc := ⟨.hbm, 80, rfl⟩
abbrev main_while1b_call7_v0 : Ref sig .tc := ⟨.hbm, 81, rfl⟩
abbrev main_while1b_v21 : Ref sig .tc := ⟨.hbm, 82, rfl⟩
abbrev main_while1b_v22 : Ref sig .tc := ⟨.hbm, 83, rfl⟩
abbrev main_while1b_v23 : Ref sig .tc := ⟨.hbm, 84, rfl⟩
abbrev main_while1b_call9_c : Ref sig .tc := ⟨.hbm, 85, rfl⟩
abbrev main_while1b_call9_v0 : Ref sig .tc := ⟨.hbm, 86, rfl⟩
abbrev main_while1b_call9_v1 : Ref sig .tc := ⟨.hbm, 87, rfl⟩
abbrev main_while1b_call9_c_0 : Ref sig .tc := ⟨.hbm, 88, rfl⟩
abbrev main_while1b_call9_v2 : Ref sig .tc := ⟨.hbm, 89, rfl⟩
abbrev main_while1b_call9_v3 : Ref sig .tc := ⟨.hbm, 90, rfl⟩
abbrev main_while1b_call9_v4 : Ref sig .tc := ⟨.hbm, 91, rfl⟩
abbrev main_while1b_call9_v5 : Ref sig .tc := ⟨.hbm, 92, rfl⟩
abbrev main_while1b_call9_c_1 : Ref sig .tc := ⟨.hbm, 93, rfl⟩
abbrev main_while1b_call9_c_2 : Ref sig .tc := ⟨.hbm, 94, rfl⟩
abbrev main_while1b_call9_v6 : Ref sig .tc := ⟨.hbm, 95, rfl⟩
abbrev main_while1b_call9_v7 : Ref sig .tc := ⟨.hbm, 96, rfl⟩
abbrev main_while1b_call9_v8 : Ref sig .tc := ⟨.hbm, 97, rfl⟩
abbrev main_while1b_call9_v9 : Ref sig .tc := ⟨.hbm, 98, rfl⟩
abbrev main_while1b_call9_v10 : Ref sig .tc := ⟨.hbm, 99, rfl⟩
abbrev main_while1b_call9_v11 : Ref sig .tc := ⟨.hbm, 100, rfl⟩
abbrev main_while1b_call9_c_3 : Ref sig .tc := ⟨.hbm, 101, rfl⟩
abbrev main_while1b_call9_v12 : Ref sig .tc := ⟨.hbm, 102, rfl⟩
abbrev main_while1b_call9_v13 : Ref sig .tc := ⟨.hbm, 103, rfl⟩
abbrev main_while1b_call9_c_4 : Ref sig .tc := ⟨.hbm, 104, rfl⟩
abbrev main_while1b_call9_v14 : Ref sig .tc := ⟨.hbm, 105, rfl⟩
abbrev main_while1b_v24 : Ref sig .tc := ⟨.hbm, 106, rfl⟩
abbrev main_while1b_v25 : Ref sig .tc := ⟨.hbm, 107, rfl⟩
abbrev main_while1b_call10_v0 : Ref sig .tc := ⟨.hbm, 108, rfl⟩
abbrev main_while1b_call10_c : Ref sig .tc := ⟨.hbm, 109, rfl⟩
abbrev main_while1b_v26 : Ref sig .tc := ⟨.hbm, 110, rfl⟩
abbrev main_while1b_c_13 : Ref sig .tc := ⟨.hbm, 111, rfl⟩
abbrev main_while1b_v27 : Ref sig .tc := ⟨.hbm, 112, rfl⟩
abbrev main_v17 : Ref sig .tc := ⟨.hbm, 113, rfl⟩
abbrev main_v18 : Ref sig .tc := ⟨.hbm, 114, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Struct.lean ====
module

public import Idealize.ShloMosaic.Lib.Pipeline
public import Idealize.ShloMosaic.Lib.Scf
public import Idealize.ShloMosaic.Lib.Sig
public import Idealize.ShloMosaic.PureOps

/-! # The decoding kernel, written with its loops over the tags

The printed kernel unrolls every Python loop over the 128 distances between two tags. Here is the same sequence of
loads, stores and values with those loops as recursions, over any buffers. Two programs run it (`Kernel` and
`KernelIdeal`), and each is definitionally this one. -/

@[expose] public section

noncomputable section

namespace Viterbi

open Idealize.ShloMosaic Idealize.SL.Sem

/-- One value per sequence and tag. -/
abbrev SNC : Shape := ⟨2, ![16, 128]⟩
/-- One slab of a stack of such arrays. -/
abbrev S1NC : Shape := ⟨3, ![1, 16, 128]⟩
/-- One slab of a pair of stacks. -/
abbrev S11NC : Shape := ⟨4, ![1, 1, 16, 128]⟩
/-- A stack with a slab per distance between tags. -/
abbrev SCNC : Shape := ⟨3, ![128, 16, 128]⟩
/-- Two such stacks. -/
abbrev S2CNC : Shape := ⟨4, ![2, 128, 16, 128]⟩
/-- A stack with a slab per position of the sequence. -/
abbrev SLNC : Shape := ⟨3, ![512, 16, 128]⟩
/-- A table over pairs of tags. -/
abbrev SCC : Shape := ⟨2, ![128, 128]⟩
/-- One row of it. -/
abbrev S1C : Shape := ⟨2, ![1, 128]⟩
/-- A row as a vector. -/
abbrev SC : Shape := ⟨1, ![128]⟩
/-- One value per sequence. -/
abbrev SN : Shape := ⟨1, ![16]⟩
/-- The same as a column. -/
abbrev SN1 : Shape := ⟨2, ![16, 1]⟩
/-- The same as a row. -/
abbrev S1N : Shape := ⟨2, ![1, 16]⟩
/-- One value per position and sequence. -/
abbrev SLN : Shape := ⟨2, ![512, 16]⟩

variable {nD : Nat} {τ : Topo} {sig : RefSig} {Λ₀ : Labels} {F : FTy → Type} [FloatOps F]

/-- A balanced tree of `op` over the `2 ^ k` values `leaf d`, …, `leaf (d + 2 ^ k - 1)`, run from left to right. -/
def tree {E : Type → Type} {X : Type} (op : X → X → X) (n : Nat) (leaf : (d : Nat) → d < n → Prog E X) :
    (k d : Nat) → d + 2 ^ k ≤ n → Prog E X
  | 0, d, h => leaf d (by rw [Nat.pow_zero] at h; omega)
  | k + 1, d, h =>
    Prog.bind (tree op n leaf k d (by rw [Nat.pow_succ] at h; omega)) fun a =>
      Prog.bind (tree op n leaf k (d + 2 ^ k) (by rw [Nat.pow_succ] at h; omega)) fun b => Prog.ret (op a b)

/-- `step d` for `d` from 0 to `k - 1`. -/
def upTo {E : Type → Type} (n : Nat) (step : (d : Nat) → d < n → Prog E PUnit) : (k d : Nat) → d + k ≤ n → Prog E PUnit
  | 0, _, _ => Prog.ret ⟨⟩
  | k + 1, d, h => Prog.bind (step d (by omega)) fun _ => upTo n step k (d + 1) (by omega)

/-- Row `d` of a table over pairs of tags. -/
abbrev rowOf (d : Nat) (h : d < 128) : Rect SCC :=
  Rect.unit (s := SCC) ![d, 0] S1C.size (fun a => by
    match a with
    | 0 => exact h
    | 1 => exact Nat.le_refl _)

/-- Slab `d` of a stack over the distances. -/
abbrev slabOf (d : Nat) (h : d < 128) : Rect SCNC :=
  Rect.unit (s := SCNC) ![d, 0, 0] S1NC.size (fun a => by
    match a with
    | 0 => exact h
    | 1 => exact Nat.le_refl _
    | 2 => exact Nat.le_refl _)

/-- Slab `d` of the stack `j`. -/
abbrev pairSlab (j : Nat) (hj : j < 2) (d : Nat) (h : d < 128) : Rect S2CNC :=
  Rect.unit (s := S2CNC) ![j, d, 0, 0] S11NC.size (fun a => by
    match a with
    | 0 => exact hj
    | 1 => exact h
    | 2 => exact Nat.le_refl _
    | 3 => exact Nat.le_refl _)

theorem pos_S1C : 0 < S1C.numel := by decide +kernel
theorem pos_S1NC : 0 < S1NC.numel := by decide +kernel
theorem pos_S11NC : 0 < S11NC.numel := by decide +kernel
theorem pos_S1N : 0 < S1N.numel := by decide +kernel
theorem cast_S1C_SC : S1C.ShapeCasts SC := by decide +kernel
theorem cast_SC_S1C : SC.ShapeCasts S1C := by decide +kernel
theorem cast_S1C_S1C : S1C.ShapeCasts S1C := by decide +kernel
theorem bcast_S1C_SNC : S1C.Broadcasts SNC := by decide +kernel
theorem cast_S1NC_SNC : S1NC.ShapeCasts SNC := by decide +kernel
theorem cast_SNC_S1NC : SNC.ShapeCasts S1NC := by decide +kernel
theorem cast_S11NC_SNC : S11NC.ShapeCasts SNC := by decide +kernel
theorem cast_SNC_S11NC : SNC.ShapeCasts S11NC := by decide +kernel
theorem rot_SNC : SNC.Rotates 1 none := by decide +kernel

/-- One row of a table over pairs of tags, repeated for every sequence, into a slab of a stack. -/
def fillOne (src : Memref sig .tc .vmem SCC .f32) (dst : Memref sig .tc .vmem SCNC .f32) (d : Nat) (h : d < 128) :
    Prog (TpuEff nD τ sig (Elt F) Λ₀ .tc) PUnit := do
  let v : Vec F S1C .f32 ← Prog.lift (.load src (rowOf d h).toLoadRect (View.loadsAt_vmem pos_S1C))
  let _w : Vec F S1NC .f32 ← Prog.lift (.load dst (slabOf d h).toLoadRect (View.loadsAt_vmem pos_S1NC))
  Prog.lift (.store dst (slabOf d h)
    (shapeCast S1NC (broadcastTo SNC (shapeCast S1C (shapeCast S1C (shapeCast SC v cast_S1C_SC) cast_SC_S1C) cast_S1C_S1C)
      bcast_S1C_SNC) cast_SNC_S1NC)
    Finset.univ (View.stores_vmem_bits_univ pos_S1NC rfl) (.inl rfl))

/-- `fv` turned by `d` tags. -/
def turned (fv : FVec F SNC .f32) : Nat → FVec F SNC .f32
  | 0 => fv
  | d + 1 => dynamicRotate 1 (BitVec.ofNat 32 (d + 1)) none fv rot_SNC

/-- The scores at distance `d`: computed, kept in slab `d` of stack `j`, and passed on. -/
def scoreOne (ttb : Memref sig .tc .vmem SCNC .f32) (sb : Memref sig .tc .vmem S2CNC .f32) (j : Nat) (hj : j < 2)
    (fv : FVec F SNC .f32) (d : Nat) (h : d < 128) :
    Prog (TpuEff nD τ sig (Elt F) Λ₀ .tc) (FVec F SNC .f32) := do
  let v : Vec F S1NC .f32 ← Prog.lift (.load ttb (slabOf d h).toLoadRect (View.loadsAt_vmem pos_S1NC))
  let _w : Vec F S11NC .f32 ← Prog.lift (.load sb (pairSlab j hj d h).toLoadRect (View.loadsAt_vmem pos_S11NC))
  Prog.lift (.store sb (pairSlab j hj d h)
    (shapeCast S11NC (addf (turned fv d) (shapeCast SNC v cast_S1NC_SNC)) cast_SNC_S11NC)
    Finset.univ (View.stores_vmem_bits_univ pos_S11NC rfl) (.inl rfl))
  Prog.ret (addf (turned fv d) (shapeCast SNC v cast_S1NC_SNC))

/-- The first pass of a step: all the scores, and the largest of them. -/
def pass1 (ttb : Memref sig .tc .vmem SCNC .f32) (sb : Memref sig .tc .vmem S2CNC .f32) (j : Nat) (hj : j < 2)
    (fv : FVec F SNC .f32) : Prog (TpuEff nD τ sig (Elt F) Λ₀ .tc) (FVec F SNC .f32) :=
  tree maximumf 128 (scoreOne ttb sb j hj fv) 7 0 (by decide)

/-- The previous tag at distance `d` where the score kept there is the best, and the number of tags elsewhere. -/
def pickOne (idxb : Memref sig .tc .vmem SCNC .f32) (sb : Memref sig .tc .vmem S2CNC .f32) (j : Nat) (hj : j < 2)
    (vit : FVec F SNC .f32) (d : Nat) (h : d < 128) :
    Prog (TpuEff nD τ sig (Elt F) Λ₀ .tc) (FVec F SNC .f32) := do
  let s : Vec F S11NC .f32 ← Prog.lift (.load sb (pairSlab j hj d h).toLoadRect (View.loadsAt_vmem pos_S11NC))
  let v : Vec F S1NC .f32 ← Prog.lift (.load idxb (slabOf d h).toLoadRect (View.loadsAt_vmem pos_S1NC))
  Prog.ret (select (cmpf .oeq (shapeCast SNC s cast_S11NC_SNC) vit) (shapeCast SNC v cast_S1NC_SNC)
    (broadcast SNC (Scalar.ofBits .f32 0x43000000#32 : F .f32)))

/-- The second pass of a step: the least such tag, into the slab of the position. -/
def pass2 (bp : Memref sig .tc .vmem SLNC .i32) (idxb : Memref sig .tc .vmem SCNC .f32)
    (sb : Memref sig .tc .vmem S2CNC .f32) (j : Nat) (hj : j < 2) (vit : FVec F SNC .f32)
    (o : Fin 3 → Nat) (ho : ∀ a, o a + S1NC.size a ≤ SLNC.size a) :
    Prog (TpuEff nD τ sig (Elt F) Λ₀ .tc) PUnit :=
  Prog.bind (tree minimumf 128 (pickOne idxb sb j hj vit) 7 0 (by decide)) fun b => do
    let _w : Vec F S1NC .i32 ← Prog.lift (.load bp (Rect.unit (s := SLNC) o S1NC.size ho).toLoadRect (View.loadsAt_vmem pos_S1NC))
    Prog.lift (.store bp (Rect.unit (s := SLNC) o S1NC.size ho) (shapeCast S1NC (fptosi 32 b) cast_SNC_S1NC)
      Finset.univ (View.stores_vmem_bits_univ pos_S1NC rfl) (.inl rfl))

/-- The observations at one position. -/
def obsAt (obs : Memref sig .tc .vmem SLNC .f32) (o : Fin 3 → Nat) (ho : ∀ a, o a + S1NC.size a ≤ SLNC.size a) :
    Prog (TpuEff nD τ sig (Elt F) Λ₀ .tc) (FVec F SNC .f32) := do
  let v : Vec F S1NC .f32 ← Prog.lift (.load obs (Rect.unit (s := SLNC) o S1NC.size ho).toLoadRect (View.loadsAt_vmem pos_S1NC))
  Prog.ret (shapeCast SNC v cast_S1NC_SNC)

/-- One trip of the forward loop: the second passes of the two positions before, the first passes of the next two. -/
def trip (obs : Memref sig .tc .vmem SLNC .f32) (bp : Memref sig .tc .vmem SLNC .i32)
    (ttb idxb : Memref sig .tc .vmem SCNC .f32) (sb : Memref sig .tc .vmem S2CNC .f32)
    (oa ob oc od : Fin 3 → Nat)
    (ha : ∀ a, oa a + S1NC.size a ≤ SLNC.size a) (hb : ∀ a, ob a + S1NC.size a ≤ SLNC.size a)
    (hc : ∀ a, oc a + S1NC.size a ≤ SLNC.size a) (hd : ∀ a, od a + S1NC.size a ≤ SLNC.size a)
    (c : FVec F SNC .f32 × FVec F SNC .f32 × FVec F SNC .f32) :
    Prog (TpuEff nD τ sig (Elt F) Λ₀ .tc) (FVec F SNC .f32 × FVec F SNC .f32 × FVec F SNC .f32) :=
  Prog.bind (pass2 bp idxb sb 0 (by decide) c.2.1 oa ha) fun _ =>
  Prog.bind (pass2 bp idxb sb 1 (by decide) c.2.2 ob hb) fun _ =>
  Prog.bind (obsAt obs oc hc) fun x =>
  Prog.bind (pass1 ttb sb 0 (by decide) c.1) fun a =>
  Prog.bind (obsAt obs od hd) fun y =>
  Prog.bind (pass1 ttb sb 1 (by decide) (addf a x)) fun b =>
  Prog.ret (addf b y, a, b)

theorem iota_SNC : SNC.Iotas .tc 32 [1] := by decide
theorem red_SNC_SN : SNC.Reduces [1] SN := by decide +kernel
theorem cast_SN_SN1 : SN.ShapeCasts SN1 := by decide +kernel
theorem cast_SN1_SN : SN1.ShapeCasts SN := by decide +kernel
theorem bcast_SN1_SNC : SN1.Broadcasts SNC := by decide +kernel
theorem cast_S1N_SN : S1N.ShapeCasts SN := by decide +kernel
theorem cast_SN_S1N : SN.ShapeCasts S1N := by decide +kernel

/-- The tag of each place. -/
def lanes : IVec SNC 32 := iota .tc SNC 32 [1] iota_SNC

/-- The forward loop's trips: the pairs of positions after the first. -/
@[reducible] def fwdLoop : Scf.Loop 32 := ⟨1#32, Scalar.addi 1#32 255#32, 1#32⟩
theorem fwdLoop_ok : fwdLoop.OK := by decide +kernel

/-- The backward loop's trips: eight positions each. -/
@[reducible] def bwdLoop : Scf.Loop 32 := ⟨0#32, Scalar.addi 0#32 64#32, 1#32⟩
theorem bwdLoop_ok : bwdLoop.OK := by decide +kernel

/-- The slab `c` before the pair of positions of trip `k`, -/
def offBp (k : Fin fwdLoop.trips) (c : BitVec 32) : Fin 3 → Nat :=
  ![(Scalar.indexCast (Scalar.subi (Scalar.muli 2#32 (Scf.iv 1#32 1#32 k)) c)).toNat, 0, 0]
/-- the slab of the first of the pair, -/
def offObs0 (k : Fin fwdLoop.trips) : Fin 3 → Nat :=
  ![(Scalar.indexCast (Scalar.muli 2#32 (Scf.iv 1#32 1#32 k))).toNat, 0, 0]
/-- and of the second. -/
def offObs1 (k : Fin fwdLoop.trips) : Fin 3 → Nat :=
  ![(Scalar.indexCast (Scalar.addi (Scalar.muli 2#32 (Scf.iv 1#32 1#32 k)) 1#32)).toNat, 0, 0]
/-- The position of step `c` of the backward trip `k`, counted from the end, -/
def posBack (k : Fin bwdLoop.trips) (c : BitVec 32) : Nat :=
  (Scalar.indexCast (Scalar.subi 511#32 (Scalar.addi (Scalar.muli 8#32 (Scf.iv 0#32 1#32 k)) c))).toNat

theorem offBp_eq : ∀ k : Fin fwdLoop.trips, ∀ r : Fin 2,
    offBp k (BitVec.ofNat 32 (1 + r.val)) = ![(2 * k.val + 1) - r.val, 0, 0] := by decide +kernel
theorem offObs0_eq : ∀ k : Fin fwdLoop.trips, offObs0 k = ![2 * k.val + 2, 0, 0] := by decide +kernel
theorem offObs1_eq : ∀ k : Fin fwdLoop.trips, offObs1 k = ![2 * k.val + 3, 0, 0] := by decide +kernel
theorem posBack_eq : ∀ k : Fin bwdLoop.trips, ∀ r : Fin 8,
    posBack k (BitVec.ofNat 32 r.val) = 511 - (8 * k.val + r.val) := by decide +kernel

/-- The place of a position's slab. -/
theorem slab_inb {p : Nat} (h : p < 512) : ∀ a, (![p, 0, 0] : Fin 3 → Nat) a + S1NC.size a ≤ SLNC.size a := fun a =>
  match a with
  | 0 => h
  | 1 => Nat.le_refl _
  | 2 => Nat.le_refl _

/-- The place of a position's row of the result. -/
theorem row_inb {p : Nat} (h : p < 512) : ∀ a, (![p, 0] : Fin 2 → Nat) a + S1N.size a ≤ SLN.size a := fun a =>
  match a with
  | 0 => h
  | 1 => Nat.le_refl _

theorem trips_fwd : fwdLoop.trips = 255 := by decide +kernel
theorem trips_bwd : bwdLoop.trips = 64 := by decide +kernel

theorem offBp_inb (k : Fin fwdLoop.trips) (r : Fin 2) :
    ∀ a, offBp k (BitVec.ofNat 32 (1 + r.val)) a + S1NC.size a ≤ SLNC.size a := by
  rw [offBp_eq k r]
  have := Nat.lt_of_lt_of_eq k.isLt trips_fwd
  exact slab_inb (by omega)
theorem offObs0_inb (k : Fin fwdLoop.trips) : ∀ a, offObs0 k a + S1NC.size a ≤ SLNC.size a := by
  rw [offObs0_eq k]
  have := Nat.lt_of_lt_of_eq k.isLt trips_fwd
  exact slab_inb (by omega)
theorem offObs1_inb (k : Fin fwdLoop.trips) : ∀ a, offObs1 k a + S1NC.size a ≤ SLNC.size a := by
  rw [offObs1_eq k]
  have := Nat.lt_of_lt_of_eq k.isLt trips_fwd
  exact slab_inb (by omega)
theorem posBack_lt (k : Fin bwdLoop.trips) (r : Nat) (h : r < 8) : posBack k (BitVec.ofNat 32 r) < 512 := by
  rw [posBack_eq k ⟨r, h⟩]; omega

/-- The last tag of a path: the first tag whose final score is the largest. -/
def lastTag (fv : FVec F SNC .f32) : IVec SN1 32 :=
  shapeCast SN1 (multiReductionI .minsi [1] SN
    (select (cmpf .oeq fv (broadcastTo SNC (shapeCast SN1 (multiReduction .maximumf [1] SN fv 0xFF800000#32 red_SNC_SN (.inl rfl) rfl)
      cast_SN_SN1) bcast_SN1_SNC)) lanes (broadcast SNC 128#32))
    2147483647#32 red_SNC_SN rfl) cast_SN_SN1

/-- The tag before: the entry of the slab at the tag `bt`. -/
def tagBefore (bt : IVec SN1 32) (slab : Vec F S1NC .i32) : IVec SN1 32 :=
  shapeCast SN1 (multiReductionI .maxsi [1] SN
    (select (cmpi .eq lanes (broadcastTo SNC bt bcast_SN1_SNC)) (shapeCast SNC slab cast_S1NC_SNC : IVec SNC 32) (broadcast SNC 0#32))
    2147483648#32 red_SNC_SN rfl) cast_SN_SN1

/-- `m` steps back from step `c` of trip `k`, each one following the slab of its position and writing the tag. -/
def backSteps (out : Memref sig .tc .vmem SLN .i32) (bp : Memref sig .tc .vmem SLNC .i32) (k : Fin bwdLoop.trips) :
    (m c : Nat) → c + m ≤ 8 → IVec SN1 32 → Prog (TpuEff nD τ sig (Elt F) Λ₀ .tc) (IVec SN1 32)
  | 0, _, _, bt => Prog.ret bt
  | m + 1, c, h, bt => do
    let v : Vec F S1NC .i32 ← Prog.lift (.load bp (Rect.unit (s := SLNC) ![posBack k (BitVec.ofNat 32 c), 0, 0] S1NC.size
      (slab_inb (posBack_lt k c (by omega)))).toLoadRect (View.loadsAt_vmem pos_S1NC))
    let _w : Vec F S1N .i32 ← Prog.lift (.load out (Rect.unit (s := SLN) ![posBack k (BitVec.ofNat 32 c), 0] S1N.size
      (row_inb (posBack_lt k c (by omega)))).toLoadRect (View.loadsAt_vmem pos_S1N))
    Prog.lift (.store out (Rect.unit (s := SLN) ![posBack k (BitVec.ofNat 32 c), 0] S1N.size (row_inb (posBack_lt k c (by omega))))
      (shapeCast S1N (shapeCast SN (tagBefore bt v) cast_SN1_SN) cast_SN_S1N)
      Finset.univ (View.stores_vmem_bits_univ pos_S1N rfl) (.inl rfl))
    backSteps out bp k m (c + 1) (by omega) (tagBefore bt v)

/-- The whole kernel before its forward loop: the two stacks filled, and the first passes of the first two positions. -/
def before (obs : Memref sig .tc .vmem SLNC .f32) (ttd idxd : Memref sig .tc .vmem SCC .f32)
    (ttb idxb : Memref sig .tc .vmem SCNC .f32) (sb : Memref sig .tc .vmem S2CNC .f32) :
    Prog (TpuEff nD τ sig (Elt F) Λ₀ .tc) (FVec F SNC .f32 × FVec F SNC .f32 × FVec F SNC .f32) :=
  Prog.bind (upTo 128 (fun d h => Prog.bind (fillOne ttd ttb d h) fun _ => fillOne idxd idxb d h) 128 0 (by decide)) fun _ =>
  Prog.bind (obsAt obs ![0, 0, 0] (slab_inb (by decide))) fun x =>
  Prog.bind (pass1 ttb sb 0 (by decide) (broadcast SNC (Scalar.ofBits .f32 0x00000000#32 : F .f32))) fun a =>
  Prog.bind (obsAt obs ![1, 0, 0] (slab_inb (by decide))) fun y =>
  Prog.bind (pass1 ttb sb 1 (by decide) (addf a x)) fun b =>
  Prog.ret (addf b y, a, b)

/-- One trip of the forward loop. -/
def fwdTrip (obs : Memref sig .tc .vmem SLNC .f32) (bp : Memref sig .tc .vmem SLNC .i32)
    (ttb idxb : Memref sig .tc .vmem SCNC .f32) (sb : Memref sig .tc .vmem S2CNC .f32) (k : Fin fwdLoop.trips)
    (c : FVec F SNC .f32 × FVec F SNC .f32 × FVec F SNC .f32) :
    Prog (TpuEff nD τ sig (Elt F) Λ₀ .tc) (FVec F SNC .f32 × FVec F SNC .f32 × FVec F SNC .f32) :=
  trip obs bp ttb idxb sb (offBp k 2#32) (offBp k 1#32) (offObs0 k) (offObs1 k)
    (offBp_inb k 1) (offBp_inb k 0) (offObs0_inb k) (offObs1_inb k) c

/-- The kernel after its forward loop: the last two second passes, the last tag, and the way back. -/
def after (out : Memref sig .tc .vmem SLN .i32) (bp : Memref sig .tc .vmem SLNC .i32)
    (idxb : Memref sig .tc .vmem SCNC .f32) (sb : Memref sig .tc .vmem S2CNC .f32)
    (c : FVec F SNC .f32 × FVec F SNC .f32 × FVec F SNC .f32) :
    Prog (TpuEff nD τ sig (Elt F) Λ₀ .tc) PUnit :=
  Prog.bind (pass2 bp idxb sb 0 (by decide) c.2.1 ![510, 0, 0] (slab_inb (by decide))) fun _ =>
  Prog.bind (pass2 bp idxb sb 1 (by decide) c.2.2 ![511, 0, 0] (slab_inb (by decide))) fun _ =>
  Prog.bind (Scf.Loop.for bwdLoop bwdLoop_ok (lastTag c.1) fun k bt => backSteps out bp k 8 0 (by decide) bt) fun _ =>
  Prog.ret ⟨⟩

/-- The whole kernel. -/
def decode (obs : Memref sig .tc .vmem SLNC .f32) (ttd idxd : Memref sig .tc .vmem SCC .f32)
    (out : Memref sig .tc .vmem SLN .i32) (bp : Memref sig .tc .vmem SLNC .i32)
    (ttb idxb : Memref sig .tc .vmem SCNC .f32) (sb : Memref sig .tc .vmem S2CNC .f32) :
    Prog (TpuEff nD τ sig (Elt F) Λ₀ .tc) PUnit :=
  Prog.bind (before obs ttd idxd ttb idxb sb) fun w =>
  Prog.bind (Scf.Loop.for fwdLoop fwdLoop_ok w (fwdTrip obs bp ttb idxb sb)) fun c =>
  after out bp idxb sb c

end Viterbi
-- ==== Proof.KernelSame.lean ====
module

public import proofs.«01_k».proof.Proof.Gen.Kernel
public import proofs.«01_k».proof.Proof.Struct
public import Idealize.ShloMosaic.Lib.Pipeline.Kit
public meta import Idealize.ShloMosaic.Lib.Pipeline.Regions

/-! # The printed kernel is `Viterbi.decode`

The printed kernel is cut into windows of sixty statements, and its forward loop stands inside a window of a window.
First the loop is brought to the top (its own window and the windows around it opened), and then the two programs are compared effect by effect. -/

@[expose] public section

noncomputable section

namespace Cert.Kernel.Same

open Idealize.ShloMosaic Idealize.SL.Sem Idealize.ShloMosaic.Pipeline Gen

variable {F : FTy → Type} [FloatOps F]

section
variable (arg0 : Memref sig .tc .vmem S512x16x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S512x16 .i32) (harg3 : arg3.IsWhole) (arg4 : Memref sig .tc .vmem S512x16x128 .i32) (harg4 : arg4.IsWhole) (arg5 : Memref sig .tc .vmem S128x16x128 .f32) (harg5 : arg5.IsWhole) (arg6 : Memref sig .tc .vmem S128x16x128 .f32) (harg6 : arg6.IsWhole) (arg7 : Memref sig .tc .vmem S2x128x16x128 .f32) (harg7 : arg7.IsWhole)

/-- The printed kernel is the structured one. -/
theorem kernel_eq :
    cc0__viterbi_kernel (F := F) arg0 harg0 arg1 harg1 arg2 harg2 arg3 harg3 arg4 harg4 arg5 harg5 arg6 harg6 arg7 harg7
      = Viterbi.decode arg0 arg1 arg2 arg3 arg4 arg5 arg6 arg7 := by
  unfold cc0__viterbi_kernel k0_part350 k0_part279
  simp only [Prog.bind_assoc]
  chain_rfl

end

end Cert.Kernel.Same
-- ==== Proof.Steps.lean ====
module

public import proofs.«01_k».proof.Proof.Struct
public import Idealize.ShloMosaic.Lib.Memref
public import Idealize.ShloMosaic.Lib.Writes
public import Idealize.ShloMosaic.Rules.Step

/-! # Loads and stores of whole slabs, and the two recursions

What a load and a store do to a buffer known by its contents; and the rules by which an invariant over the distances
carries through the two recursions of `Struct`. -/

@[expose] public section

noncomputable section

namespace Viterbi

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Places

variable {s : Shape} {α : Type}

/-- The part of `X` on the rectangle `r`. -/
def part (r : Rect s) (X : s.Idx → α) : r.shape.Idx → α := fun i => X (r.emb i)

theorem part_overlay (r : Rect s) (X : s.Idx → α) (w : r.shape.Idx → α) : part r (r.overlay X w) = w :=
  funext fun i => Rect.overlay_emb r X w i

/-- Two rectangles one unit thick on an axis, at different places of it, do not meet. -/
theorem part_overlay_apart (r r' : Rect s) (a : Fin s.rank) (hs : r.size a = 1) (hs' : r'.size a = 1)
    (hst : r.stride a = 1) (hne : r.off a ≠ r'.off a) (X : s.Idx → α) (w : r.shape.Idx → α) :
    part r' (r.overlay X w) = part r' X := funext fun i => by
  refine Rect.overlay_of_not_mem r X w (Rect.not_mem_set_of_axis r _ a (r.off a) 1 rfl hst hs ?_)
  rw [Rect.emb_apply]
  have h : (i a).val < r'.size a := (i a).isLt
  have h0 : (i a).val = 0 := by omega
  rw [h0]
  omega

/-- A change of shape and back. -/
theorem shapeCast_back {t : Shape} (x : t.Idx → α) (h : t.ShapeCasts s) (h' : s.ShapeCasts t) :
    shapeCast t (shapeCast s x h) h' = x := by
  funext i
  unfold shapeCast
  rw [Shape.reshapeEquiv_reshapeEquiv, Shape.reshapeEquiv_self]

end Places

variable {nD : Nat} {τ : Topo} {sig : RefSig} {Λ₀ : Labels} {Val : EltTy → Type}
variable {Ix : Type} [DecidableEq Ix] {Name : Type} [DecidableEq Name] {U : Type} [URA U] {Lvl : Type} [Preorder Lvl]

local notation "𝕄" => MT nD τ sig Ix Val Name U Lvl

variable {defs : Defs nD τ sig Val Λ₀} (c : Dev nD) {E : Set Name}

/-- A program and then another. -/
theorem wp_seq {α β : Type} {p : Prog (TpuEff nD τ sig Val Λ₀ .tc) α} {k : α → Prog (TpuEff nD τ sig Val Λ₀ .tc) β}
    {P : sProp 𝕄} {R : α → sProp 𝕄} {Q : β → sProp 𝕄}
    (h : P ⊢ wp frame (wpE defs Variants.none (c : Thread nD τ) none) E p R)
    (h' : ∀ a, R a ⊢ wp frame (wpE defs Variants.none (c : Thread nD τ) none) E (k a) Q) :
    P ⊢ wp frame (wpE defs Variants.none (c : Thread nD τ) none) E (Prog.bind p k) Q := by
  have e := wp_bind frame (wpE defs Variants.none (c : Thread nD τ) none) E p k Q
  exact h.trans (((wp _ _ _ p).mono h').trans (Entails.of_eq e.symm))

/-- A fact at the head of what is held. -/
theorem with_fact {φ : Prop} {P Q : sProp 𝕄} (h : φ → P ⊢ Q) : iprop(⌜φ⌝ ∗ P) ⊢ Q := by
  iintro ⟨%hφ, H⟩
  iapply (h hφ)
  iexact H

/-- A thing at the head of what is held. -/
theorem with_some {X : Type} {P : X → sProp 𝕄} {Q : sProp 𝕄} (h : ∀ x, P x ⊢ Q) : iprop(∃ x, P x) ⊢ Q := by
  iintro ⟨%x, H⟩
  iapply (h x)
  iexact H

/-- A load of a rectangle yields its part of the contents. -/
theorem wp_load_part {α : Type} {Q : α → sProp 𝕄} {s : Shape} {e : EltTy} {m : Memref sig .tc .vmem s e} {r : Rect s}
    {hl : m.view.LoadsAt r.toLoadRect} {k : (r.shape.Idx → Val e) → Prog (TpuEff nD τ sig Val Λ₀ .tc) α}
    {q : PosShare TreeShare} {X : s.Idx → Val e} :
    (owns (c : Thread nD τ) m q X : sProp 𝕄)
      ⊢ iprop((owns (c : Thread nD τ) m q X -∗ wp frame (wpE defs Variants.none (c : Thread nD τ) none) E (k (part r X)) Q)
        -∗ wp frame (wpE defs Variants.none (c : Thread nD τ) none) E (Prog.lift (.load m r.toLoadRect hl) >>= k) Q) := by
  unfold owns
  iintro ⟨%f, %hf, H⟩ Hk
  subst hf
  iapply (wp_load_rect (defs := defs) Variants.none (c : Thread nD τ) none E (m := m) (r := r) (hl := hl) (k := k) (Q := Q)
    (q := q) (f := f) (S := m.view.set) (View.set_slice_subset m.view r)) $$ H
  iintro H
  iapply Hk
  iexists f
  isplitr
  · ipureintro; rfl
  · iexact H

/-- A store of a rectangle replaces its part of the contents. -/
theorem wp_store_part {α : Type} {Q : α → sProp 𝕄} {s : Shape} {e : EltTy} {m : Memref sig .tc .vmem s e} {r : Rect s} {w : r.shape.Idx → Val e}
    {hx : (m.access r).Stores Finset.univ} {hm : Finset.univ = Finset.univ ∨ ∀ a, r.stride a = 1}
    {k : PUnit → Prog (TpuEff nD τ sig Val Λ₀ .tc) α} {X : s.Idx → Val e} :
    (owns (c : Thread nD τ) m fullShare X : sProp 𝕄)
      ⊢ iprop((owns (c : Thread nD τ) m fullShare (r.overlay X w) -∗ wp frame (wpE defs Variants.none (c : Thread nD τ) none) E (k ⟨⟩) Q)
        -∗ wp frame (wpE defs Variants.none (c : Thread nD τ) none) E
            (Prog.lift (.store m r w Finset.univ hx hm) >>= k) Q) := by
  unfold owns
  iintro ⟨%f, %hf, H⟩ Hk
  subst hf
  iapply (wp_store (defs := defs) Variants.none (c : Thread nD τ) none E (m := m) (r := r) (w := w) (Mk := Finset.univ)
    (hx := hx) (hm := hm) (k := k) (Q := Q) (f := f) (S := m.view.set) (View.set_slice_subset m.view r)) $$ H
  iintro H
  iapply Hk
  iexists _
  isplitr
  swap
  · iexact H
  · ipureintro
    funext y
    by_cases hy : y ∈ r.set
    · obtain ⟨x, rfl⟩ := r.exists_idx_of_mem hy
      exact (View.read_slice_write_emb r f w (Finset.mem_univ x)).trans (Rect.overlay_emb r _ w x).symm
    · exact (View.read_slice_write_of_not_mem r f w Finset.univ (by rwa [Rect.map_emb_univ])).trans
        (Rect.overlay_of_not_mem r _ w hy).symm

/-- The same when the store is the last thing done. -/
theorem wp_store_last {Q : PUnit → sProp 𝕄} {s : Shape} {e : EltTy} {m : Memref sig .tc .vmem s e} {r : Rect s}
    {w : r.shape.Idx → Val e}
    {hx : (m.access r).Stores Finset.univ} {hm : Finset.univ = Finset.univ ∨ ∀ a, r.stride a = 1} {X : s.Idx → Val e} :
    (owns (c : Thread nD τ) m fullShare X : sProp 𝕄)
      ⊢ iprop((owns (c : Thread nD τ) m fullShare (r.overlay X w) -∗ Q ⟨⟩)
        -∗ wp frame (wpE defs Variants.none (c : Thread nD τ) none) E
            (Prog.lift (.store m r w Finset.univ hx hm) : Prog (TpuEff nD τ sig Val Λ₀ .tc) PUnit) Q) := by
  have h := wp_store_part (defs := defs) c (E := E) (Q := Q) (m := m) (r := r) (w := w) (hx := hx) (hm := hm) (X := X)
    (k := Prog.ret)
  iintro H Hk
  iapply h $$ H
  iintro H
  rw [wp_ret]
  imodintro
  iapply Hk
  iexact H

/-- A program known by what it leaves, and then another. -/
theorem wp_then {α β : Type} {p : Prog (TpuEff nD τ sig Val Λ₀ .tc) α} {k : α → Prog (TpuEff nD τ sig Val Λ₀ .tc) β}
    {P : sProp 𝕄} {R : α → sProp 𝕄} {Q : β → sProp 𝕄}
    (h : P ⊢ wp frame (wpE defs Variants.none (c : Thread nD τ) none) E p R) :
    iprop(P ∗ (∀ a, R a -∗ wp frame (wpE defs Variants.none (c : Thread nD τ) none) E (k a) Q))
      ⊢ wp frame (wpE defs Variants.none (c : Thread nD τ) none) E (Prog.bind p k) Q := by
  have e := wp_bind frame (wpE defs Variants.none (c : Thread nD τ) none) E p k Q
  refine BIBase.Entails.trans (Q := wp frame (wpE defs Variants.none (c : Thread nD τ) none) E p
    fun a => wp frame (wpE defs Variants.none (c : Thread nD τ) none) E (k a) Q) ?_ (Entails.of_eq e.symm)
  iintro ⟨HP, HQ⟩
  iapply (wp_wand_r _ _ _)
  isplitl [HP]
  · iapply h; iexact HP
  · iexact HQ

/-- A recursion over the distances, by what holds before each. -/
theorem wp_upTo {n : Nat} (step : (d : Nat) → d < n → Prog (TpuEff nD τ sig Val Λ₀ .tc) PUnit) (J : Nat → sProp 𝕄)
    (hstep : ∀ d h, J d ⊢ wp frame (wpE defs Variants.none (c : Thread nD τ) none) E (step d h) fun _ => J (d + 1)) :
    ∀ (k d : Nat) (h : d + k ≤ n),
      J d ⊢ wp frame (wpE defs Variants.none (c : Thread nD τ) none) E (upTo n step k d h) fun _ => J (d + k) := by
  intro k
  induction k with
  | zero =>
    intro d h
    rw [upTo, wp_ret]
    exact fupd_intro
  | succ k ih =>
    intro d h
    rw [upTo]
    refine wp_seq c (hstep d (by omega)) fun _ => ?_
    have := ih (d + 1) (by omega)
    rw [show d + (k + 1) = d + 1 + k by omega]
    exact this

/-- The value of a balanced tree. -/
def treeVal {X : Type} (op : X → X → X) (g : Nat → X) : Nat → Nat → X
  | 0, d => g d
  | k + 1, d => op (treeVal op g k d) (treeVal op g k (d + 2 ^ k))

/-- A tree over the distances, by what holds before each and the value each yields. -/
theorem wp_tree {n : Nat} {X : Type} (op : X → X → X)
    (leaf : (d : Nat) → d < n → Prog (TpuEff nD τ sig Val Λ₀ .tc) X) (g : Nat → X) (J : Nat → sProp 𝕄)
    (hleaf : ∀ d h, J d ⊢ wp frame (wpE defs Variants.none (c : Thread nD τ) none) E (leaf d h)
      fun x => iprop(⌜x = g d⌝ ∗ J (d + 1))) :
    ∀ (k d : Nat) (h : d + 2 ^ k ≤ n),
      J d ⊢ wp frame (wpE defs Variants.none (c : Thread nD τ) none) E (tree op n leaf k d h)
        fun x => iprop(⌜x = treeVal op g k d⌝ ∗ J (d + 2 ^ k)) := by
  intro k
  induction k with
  | zero => exact fun d h => hleaf d (by rw [Nat.pow_zero] at h; omega)
  | succ k ih =>
    intro d h
    rw [tree]
    refine wp_seq c (ih d (by rw [Nat.pow_succ] at h; omega)) fun a => ?_
    refine with_fact fun ha => ?_
    subst ha
    refine wp_seq c (ih (d + 2 ^ k) (by rw [Nat.pow_succ] at h; omega)) fun b => ?_
    iintro ⟨%hb, HJ⟩
    subst hb
    rw [wp_ret]
    imodintro
    isplitr
    · ipureintro; rfl
    · rw [show d + 2 ^ (k + 1) = d + 2 ^ k + 2 ^ k by rw [Nat.pow_succ]; omega]
      iexact HJ

end Viterbi

end
-- ==== Proof.Spec.lean ====
module

public import proofs.«01_k».proof.Proof.Steps
public import Idealize.ShloMosaic.Lib.ValueIdxCore

/-! # What the kernel computes

The values of the kernel's passes as functions of its three inputs, over any floats: the observations `O`, the table `T`
of transition scores by distance, and the table `I` of previous tags by distance. -/

@[expose] public section

noncomputable section

namespace Viterbi

open Idealize.ShloMosaic

variable {F : FTy → Type} [FloatOps F]

/-- Row `d` of a table, repeated for every sequence. -/
def rowVal (T : Vec F SCC .f32) (d : Nat) (h : d < 128) : FVec F SNC .f32 :=
  broadcastTo SNC (shapeCast S1C (shapeCast S1C (shapeCast SC (part (rowOf d h) T : Vec F S1C .f32) cast_S1C_SC) cast_SC_S1C)
    cast_S1C_S1C) bcast_S1C_SNC

/-- The same for any `d`, counted around. -/
def rowAt (T : Vec F SCC .f32) (d : Nat) : FVec F SNC .f32 := rowVal T (d % 128) (Nat.mod_lt _ (by decide))

theorem rowAt_eq (T : Vec F SCC .f32) (d : Nat) (h : d < 128) : rowAt T d = rowVal T d h := by
  have at_eq : ∀ e (he : e < 128), e = d → rowVal T e he = rowVal T d h := by rintro _ _ rfl; rfl
  exact at_eq _ _ (Nat.mod_eq_of_lt h)

/-- Slab `d` of a stack. -/
def slabVal (Y : Vec F SCNC .f32) (d : Nat) (h : d < 128) : FVec F SNC .f32 :=
  shapeCast SNC (part (slabOf d h) Y : Vec F S1NC .f32) cast_S1NC_SNC

/-- Slab `d` of stack `j` of a pair. -/
def pairVal (Z : Vec F S2CNC .f32) (j : Nat) (hj : j < 2) (d : Nat) (h : d < 128) : FVec F SNC .f32 :=
  shapeCast SNC (part (pairSlab j hj d h) Z : Vec F S11NC .f32) cast_S11NC_SNC

/-- The slab of position `t`. -/
abbrev posRect (t : Nat) (h : t < 512) : Rect SLNC := Rect.unit (s := SLNC) ![t, 0, 0] S1NC.size (slab_inb h)

/-- The row of position `t` of the result. -/
abbrev outRect (t : Nat) (h : t < 512) : Rect SLN := Rect.unit (s := SLN) ![t, 0] S1N.size (row_inb h)

/-- What a stack with a slab per position holds at `t`. -/
def posVal {e : EltTy} (O : Vec F SLNC e) (t : Nat) (h : t < 512) : Vec F SNC e :=
  shapeCast SNC (part (posRect t h) O : Vec F S1NC e) cast_S1NC_SNC

/-- The observations at position `t`. -/
def obsVal (O : Vec F SLNC .f32) (t : Nat) : FVec F SNC .f32 := posVal O (t % 512) (Nat.mod_lt _ (by decide))

theorem obsVal_eq (O : Vec F SLNC .f32) (t : Nat) (h : t < 512) : obsVal O t = posVal O t h := by
  have at_eq : ∀ e (he : e < 512), e = t → posVal O e he = posVal O t h := by rintro _ _ rfl; rfl
  exact at_eq _ _ (Nat.mod_eq_of_lt h)

/-- The scores at distance `d`. -/
def scoreVal (T : Vec F SCC .f32) (fv : FVec F SNC .f32) (d : Nat) : FVec F SNC .f32 := addf (turned fv d) (rowAt T d)

/-- The best of them. -/
def bestVal (T : Vec F SCC .f32) (fv : FVec F SNC .f32) : FVec F SNC .f32 := treeVal maximumf (scoreVal T fv) 7 0

/-- The previous tag at distance `d` where the score there is the best, and the number of tags elsewhere. -/
def pickVal (T I : Vec F SCC .f32) (fv : FVec F SNC .f32) (d : Nat) : FVec F SNC .f32 :=
  select (cmpf .oeq (scoreVal T fv d) (bestVal T fv)) (rowAt I d) (broadcast SNC (Scalar.ofBits .f32 0x43000000#32 : F .f32))

/-- The least such tag. -/
def backVal (T I : Vec F SCC .f32) (fv : FVec F SNC .f32) : IVec SNC 32 :=
  fptosi 32 (treeVal minimumf (pickVal T I fv) 7 0)

/-- The forward values before position `t`. -/
def fvVal (O : Vec F SLNC .f32) (T : Vec F SCC .f32) : Nat → FVec F SNC .f32
  | 0 => broadcast SNC (Scalar.ofBits .f32 0x00000000#32 : F .f32)
  | t + 1 => addf (bestVal T (fvVal O T t)) (obsVal O t)

/-- The tag before, by a slab of previous tags. -/
def tagFrom (bt : IVec SN1 32) (b : IVec SNC 32) : IVec SN1 32 :=
  shapeCast SN1 (multiReductionI .maxsi [1] SN
    (select (cmpi .eq lanes (broadcastTo SNC bt bcast_SN1_SNC)) b (broadcast SNC 0#32))
    2147483648#32 red_SNC_SN rfl) cast_SN_SN1

/-- The tags `r` steps back from the end. -/
def tagVal (O : Vec F SLNC .f32) (T I : Vec F SCC .f32) : Nat → IVec SN1 32
  | 0 => lastTag (fvVal O T 512)
  | r + 1 => tagFrom (tagVal O T I r) (backVal T I (fvVal O T (511 - r)))

/-- A column of tags as a row. -/
def asRow (bt : IVec SN1 32) : IVec S1N 32 := shapeCast S1N (shapeCast SN bt cast_SN1_SN) cast_SN_S1N

/-- The whole result: at position `p` the tags `512 - p` steps back from the end. -/
def pathVal (O : Vec F SLNC .f32) (T I : Vec F SCC .f32) : Vec F SLN .i32 :=
  fun i => asRow (tagVal O T I (512 - (i 0).val)) (ValueIdx.ix2 (0 : Fin 1) (i 1))

end Viterbi

end
-- ==== Proof.Triple.lean ====
module

public import proofs.«01_k».proof.Proof.Spec
public import Idealize.ShloMosaic.Lib.Scf

/-! # The kernel run on its buffers

Each pass of `Struct` with what it needs and what it leaves, and the whole kernel: on any contents of the output and the
scratch buffers it leaves `pathVal` of its inputs in the output. -/

@[expose] public section

noncomputable section

namespace Viterbi

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the scratch buffers hold -/

/-- The slabs below `k` of a stack are the rows of a table. -/
def Filled (T : Vec F SCC .f32) (k : Nat) (Y : Vec F SCNC .f32) : Prop :=
  ∀ d (h : d < 128), d < k → slabVal Y d h = rowAt T d

/-- The slabs below `k` of stack `j` are the scores of `fv`. -/
def Kept (T : Vec F SCC .f32) (fv : FVec F SNC .f32) (j : Nat) (hj : j < 2) (k : Nat) (Z : Vec F S2CNC .f32) : Prop :=
  ∀ d (h : d < 128), d < k → pairVal Z j hj d h = scoreVal T fv d

/-- The slabs below `k` of the previous tags are the right ones. -/
def Backs (O : Vec F SLNC .f32) (T I : Vec F SCC .f32) (k : Nat) (B : Vec F SLNC .i32) : Prop :=
  ∀ t (h : t < 512), t < k → posVal B t h = backVal T I (fvVal O T t)

/-- The rows from `k` on of the result are the right ones. -/
def Rows (O : Vec F SLNC .f32) (T I : Vec F SCC .f32) (k : Nat) (R : Vec F SLN .i32) : Prop :=
  ∀ t (h : t < 512), k ≤ t → (part (outRect t h) R : Vec F S1N .i32) = asRow (tagVal O T I (512 - t))

theorem Filled.zero (T : Vec F SCC .f32) (Y : Vec F SCNC .f32) : Filled T 0 Y := fun _ _ h => absurd h (Nat.not_lt_zero _)

theorem Filled.next {T : Vec F SCC .f32} {k : Nat} {Y : Vec F SCNC .f32} (hY : Filled T k Y) (h : k < 128) :
    Filled T (k + 1) ((slabOf k h).overlay Y (shapeCast S1NC (rowVal T k h) cast_SNC_S1NC)) := by
  intro d hd hlt
  unfold slabVal
  by_cases e : d = k
  · subst e
    rw [part_overlay, rowAt_eq T d hd]
    exact shapeCast_back _ _ _
  · rw [part_overlay_apart (slabOf k h) (slabOf d hd) 0 rfl rfl rfl (fun e' => e e'.symm)]
    exact hY d hd (by omega)

theorem Kept.zero (T : Vec F SCC .f32) (fv : FVec F SNC .f32) (j : Nat) (hj : j < 2) (Z : Vec F S2CNC .f32) :
    Kept T fv j hj 0 Z := fun _ _ h => absurd h (Nat.not_lt_zero _)

theorem Kept.next {T : Vec F SCC .f32} {fv : FVec F SNC .f32} {j : Nat} {hj : j < 2} {k : Nat} {Z : Vec F S2CNC .f32}
    (hZ : Kept T fv j hj k Z) (h : k < 128) :
    Kept T fv j hj (k + 1) ((pairSlab j hj k h).overlay Z (shapeCast S11NC (scoreVal T fv k) cast_SNC_S11NC)) := by
  intro d hd hlt
  unfold pairVal
  by_cases e : d = k
  · subst e
    rw [part_overlay]
    exact shapeCast_back _ _ _
  · rw [part_overlay_apart (pairSlab j hj k h) (pairSlab j hj d hd) 1 rfl rfl rfl (fun e' => e e'.symm)]
    exact hZ d hd (by omega)

theorem Kept.other {T : Vec F SCC .f32} {fv : FVec F SNC .f32} {j : Nat} {hj : j < 2} {n : Nat} {Z : Vec F S2CNC .f32}
    (hZ : Kept T fv j hj n Z) (j' : Nat) (hj' : j' < 2) (hne : j' ≠ j) (k : Nat) (h : k < 128) (w : Vec F S11NC .f32) :
    Kept T fv j hj n ((pairSlab j' hj' k h).overlay Z w) := by
  intro d hd hlt
  unfold pairVal
  rw [part_overlay_apart (pairSlab j' hj' k h) (pairSlab j hj d hd) 0 rfl rfl rfl hne]
  exact hZ d hd hlt

theorem Backs.zero (O : Vec F SLNC .f32) (T I : Vec F SCC .f32) (B : Vec F SLNC .i32) : Backs O T I 0 B :=
  fun _ _ h => absurd h (Nat.not_lt_zero _)

theorem Backs.next {O : Vec F SLNC .f32} {T I : Vec F SCC .f32} {k : Nat} {B : Vec F SLNC .i32} (hB : Backs O T I k B)
    (h : k < 512) :
    Backs O T I (k + 1) ((posRect k h).overlay B (shapeCast S1NC (backVal T I (fvVal O T k)) cast_SNC_S1NC)) := by
  intro t ht hlt
  unfold posVal
  by_cases e : t = k
  · subst e
    rw [part_overlay]
    exact shapeCast_back _ _ _
  · rw [part_overlay_apart (posRect k h) (posRect t ht) 0 rfl rfl rfl (fun e' => e e'.symm)]
    exact hB t ht (by omega)

theorem Rows.last (O : Vec F SLNC .f32) (T I : Vec F SCC .f32) (R : Vec F SLN .i32) : Rows O T I 512 R :=
  fun _ h h' => absurd h (Nat.not_lt.2 h')

theorem Rows.next {O : Vec F SLNC .f32} {T I : Vec F SCC .f32} {k : Nat} {R : Vec F SLN .i32} (hR : Rows O T I (k + 1) R)
    (h : k < 512) : Rows O T I k ((outRect k h).overlay R (asRow (tagVal O T I (512 - k)))) := by
  intro t ht hle
  by_cases e : t = k
  · subst e
    exact part_overlay (outRect t h) R _
  · rw [part_overlay_apart (outRect k h) (outRect t ht) 0 rfl rfl rfl (fun e' => e e'.symm)]
    exact hR t ht (by omega)

theorem Rows.all {O : Vec F SLNC .f32} {T I : Vec F SCC .f32} {R : Vec F SLN .i32} (hR : Rows O T I 0 R) :
    R = pathVal O T I := funext fun i => by
  have h := congrFun (hR (i 0).val (i 0).isLt (Nat.zero_le _)) (ValueIdx.ix2 (0 : Fin 1) (i 1))
  refine Eq.trans (congrArg R ?_) h
  symm
  refine Rect.emb_eq_of_coords _ _ _ fun a => ?_
  match a with
  | 0 => exact (Nat.add_zero _).symm
  | 1 => exact ((Nat.zero_add _).trans (Nat.one_mul _)).symm

variable {nD : Nat} {τ : Topo} {sig : RefSig} {Λ₀ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (c : Dev nD) {E : Set Name}

/-! ## The passes -/

theorem fillOne_spec (src : Memref sig .tc .vmem SCC .f32) (dst : Memref sig .tc .vmem SCNC .f32) (T : Vec F SCC .f32)
    (d : Nat) (h : d < 128) :
    iprop(owns (c : Thread nD τ) src fullShare T ∗ (∃ Y, ⌜Filled T d Y⌝ ∗ owns (c : Thread nD τ) dst fullShare Y) : sProp 𝕄)
      ⊢ wp frame (wpE defs Variants.none (c : Thread nD τ) none) E (fillOne src dst d h)
        fun _ => iprop(owns (c : Thread nD τ) src fullShare T
          ∗ (∃ Y, ⌜Filled T (d + 1) Y⌝ ∗ owns (c : Thread nD τ) dst fullShare Y)) := by
  unfold fillOne
  iintro ⟨H, ⟨%Y, %hY, HY⟩⟩
  iapply (wp_load_part c) $$ H
  iintro H
  iapply (wp_load_part c) $$ HY
  iintro HY
  iapply (wp_store_last c) $$ HY
  iintro HY
  isplitl [H]
  · iexact H
  iexists _
  isplitr
  swap
  · iexact HY
  · ipureintro; exact hY.next h

theorem scoreOne_spec (ttb : Memref sig .tc .vmem SCNC .f32) (sb : Memref sig .tc .vmem S2CNC .f32) (T : Vec F SCC .f32)
    (Y : Vec F SCNC .f32) (hY : Filled T 128 Y) (j : Nat) (hj : j < 2) (fv : FVec F SNC .f32) (P : Vec F S2CNC .f32 → Prop)
    (hP : ∀ Z, P Z → ∀ k h w, P ((pairSlab j hj k h).overlay Z w)) (d : Nat) (h : d < 128) :
    iprop(owns (c : Thread nD τ) ttb fullShare Y
        ∗ (∃ Z, ⌜Kept T fv j hj d Z ∧ P Z⌝ ∗ owns (c : Thread nD τ) sb fullShare Z) : sProp 𝕄)
      ⊢ wp frame (wpE defs Variants.none (c : Thread nD τ) none) E (scoreOne ttb sb j hj fv d h)
        fun x => iprop(⌜x = scoreVal T fv d⌝ ∗ owns (c : Thread nD τ) ttb fullShare Y
        ∗ (∃ Z, ⌜Kept T fv j hj (d + 1) Z ∧ P Z⌝ ∗ owns (c : Thread nD τ) sb fullShare Z)) := by
  have e : addf (turned fv d) (shapeCast SNC (part (slabOf d h) Y : Vec F S1NC .f32) cast_S1NC_SNC) = scoreVal T fv d :=
    congrArg (addf (turned fv d)) (hY d h h)
  unfold scoreOne
  iintro ⟨H, ⟨%Z, %hZ, HZ⟩⟩
  iapply (wp_load_part c) $$ H
  iintro H
  rw [e]
  iapply (wp_load_part c) $$ HZ
  iintro HZ
  iapply (wp_store_part c) $$ HZ
  iintro HZ
  rw [wp_ret]
  imodintro
  isplitr
  · ipureintro; rfl
  isplitl [H]
  · iexact H
  iexists _
  isplitr
  swap
  · iexact HZ
  · ipureintro; exact ⟨hZ.1.next h, hP Z hZ.2 _ _ _⟩

theorem pass1_spec (ttb : Memref sig .tc .vmem SCNC .f32) (sb : Memref sig .tc .vmem S2CNC .f32) (T : Vec F SCC .f32)
    (Y : Vec F SCNC .f32) (hY : Filled T 128 Y) (j : Nat) (hj : j < 2) (fv : FVec F SNC .f32) (P : Vec F S2CNC .f32 → Prop)
    (hP : ∀ Z, P Z → ∀ k h w, P ((pairSlab j hj k h).overlay Z w)) :
    iprop(owns (c : Thread nD τ) ttb fullShare Y ∗ (∃ Z, ⌜P Z⌝ ∗ owns (c : Thread nD τ) sb fullShare Z) : sProp 𝕄)
      ⊢ wp frame (wpE defs Variants.none (c : Thread nD τ) none) E (pass1 ttb sb j hj fv)
        fun x => iprop(⌜x = bestVal T fv⌝ ∗ owns (c : Thread nD τ) ttb fullShare Y
        ∗ (∃ Z, ⌜Kept T fv j hj 128 Z ∧ P Z⌝ ∗ owns (c : Thread nD τ) sb fullShare Z)) := by
  refine BIBase.Entails.trans ?_ (wp_tree c maximumf (scoreOne ttb sb j hj fv) (scoreVal T fv)
    (fun d => iprop(owns (c : Thread nD τ) ttb fullShare Y
        ∗ (∃ Z, ⌜Kept T fv j hj d Z ∧ P Z⌝ ∗ owns (c : Thread nD τ) sb fullShare Z)))
    (scoreOne_spec c ttb sb T Y hY j hj fv P hP) 7 0 (by decide))
  iintro ⟨H, ⟨%Z, %hZ, HZ⟩⟩
  isplitl [H]
  · iexact H
  iexists Z
  isplitr
  · ipureintro; exact ⟨Kept.zero T fv j hj Z, hZ⟩
  · iexact HZ

theorem pickOne_spec (idxb : Memref sig .tc .vmem SCNC .f32) (sb : Memref sig .tc .vmem S2CNC .f32) (T I : Vec F SCC .f32)
    (Y : Vec F SCNC .f32) (hY : Filled I 128 Y) (j : Nat) (hj : j < 2) (fv : FVec F SNC .f32) (Z : Vec F S2CNC .f32)
    (hZ : Kept T fv j hj 128 Z) (d : Nat) (h : d < 128) :
    iprop(owns (c : Thread nD τ) idxb fullShare Y ∗ owns (c : Thread nD τ) sb fullShare Z : sProp 𝕄)
      ⊢ wp frame (wpE defs Variants.none (c : Thread nD τ) none) E (pickOne idxb sb j hj (bestVal T fv) d h)
        fun x => iprop(⌜x = pickVal T I fv d⌝ ∗ owns (c : Thread nD τ) idxb fullShare Y
        ∗ owns (c : Thread nD τ) sb fullShare Z) := by
  have e : (shapeCast SNC (part (slabOf d h) Y : Vec F S1NC .f32) cast_S1NC_SNC) = rowAt I d := hY d h h
  have e' : (shapeCast SNC (part (pairSlab j hj d h) Z : Vec F S11NC .f32) cast_S11NC_SNC) = scoreVal T fv d := hZ d h h
  unfold pickOne
  iintro ⟨H, HZ⟩
  iapply (wp_load_part c) $$ HZ
  iintro HZ
  rw [e']
  iapply (wp_load_part c) $$ H
  iintro H
  rw [e]
  rw [wp_ret]
  imodintro
  isplitr
  · ipureintro; rfl
  isplitl [H]
  · iexact H
  · iexact HZ

theorem pass2_spec (bp : Memref sig .tc .vmem SLNC .i32) (idxb : Memref sig .tc .vmem SCNC .f32)
    (sb : Memref sig .tc .vmem S2CNC .f32) (O : Vec F SLNC .f32) (T I : Vec F SCC .f32)
    (Y : Vec F SCNC .f32) (hY : Filled I 128 Y) (j : Nat) (hj : j < 2) (t : Nat) (ht : t < 512) (Z : Vec F S2CNC .f32)
    (hZ : Kept T (fvVal O T t) j hj 128 Z) :
    iprop((∃ B, ⌜Backs O T I t B⌝ ∗ owns (c : Thread nD τ) bp fullShare B) ∗ owns (c : Thread nD τ) idxb fullShare Y
        ∗ owns (c : Thread nD τ) sb fullShare Z : sProp 𝕄)
      ⊢ wp frame (wpE defs Variants.none (c : Thread nD τ) none) E
          (pass2 bp idxb sb j hj (bestVal T (fvVal O T t)) ![t, 0, 0] (slab_inb ht))
        fun _ => iprop((∃ B, ⌜Backs O T I (t + 1) B⌝ ∗ owns (c : Thread nD τ) bp fullShare B)
        ∗ owns (c : Thread nD τ) idxb fullShare Y ∗ owns (c : Thread nD τ) sb fullShare Z) := by
  unfold pass2
  iintro ⟨⟨%B, %hB, HB⟩, H, HZ⟩
  iapply (wp_then c (wp_tree c minimumf (pickOne idxb sb j hj (bestVal T (fvVal O T t))) (pickVal T I (fvVal O T t))
    (fun _ => iprop(owns (c : Thread nD τ) idxb fullShare Y ∗ owns (c : Thread nD τ) sb fullShare Z))
    (pickOne_spec c idxb sb T I Y hY j hj (fvVal O T t) Z hZ) 7 0 _))
  isplitl [H HZ]
  · isplitl [H]
    · iexact H
    · iexact HZ
  iintro %b ⟨%hb, H, HZ⟩
  subst hb
  iapply (wp_load_part c) $$ HB
  iintro HB
  iapply (wp_store_last c) $$ HB
  iintro HB
  isplitl [HB]
  · iexists _
    isplitr
    swap
    · iexact HB
    · ipureintro; exact hB.next ht
  isplitl [H]
  · iexact H
  · iexact HZ

theorem obsAt_spec (obs : Memref sig .tc .vmem SLNC .f32) (O : Vec F SLNC .f32) (t : Nat) (ht : t < 512) :
    (owns (c : Thread nD τ) obs fullShare O : sProp 𝕄)
      ⊢ wp frame (wpE defs Variants.none (c : Thread nD τ) none) E (obsAt obs ![t, 0, 0] (slab_inb ht))
        fun x => iprop(⌜x = obsVal O t⌝ ∗ owns (c : Thread nD τ) obs fullShare O) := by
  unfold obsAt
  iintro H
  iapply (wp_load_part c) $$ H
  iintro H
  rw [wp_ret]
  imodintro
  isplitr
  · ipureintro; exact (obsVal_eq O t ht).symm
  · iexact H

/-! ## The forward half -/

/-- What is held before trip `k` of the forward loop, `a` the values it carries. -/
def fwdInv (obs : Memref sig .tc .vmem SLNC .f32) (bp : Memref sig .tc .vmem SLNC .i32)
    (ttb idxb : Memref sig .tc .vmem SCNC .f32) (sb : Memref sig .tc .vmem S2CNC .f32) (O : Vec F SLNC .f32)
    (T I : Vec F SCC .f32) (Y Y' : Vec F SCNC .f32) (k : Nat)
    (a : FVec F SNC .f32 × FVec F SNC .f32 × FVec F SNC .f32) : sProp 𝕄 :=
  iprop(⌜a = (fvVal O T (2 * k + 2), bestVal T (fvVal O T (2 * k)), bestVal T (fvVal O T (2 * k + 1)))⌝
    ∗ owns (c : Thread nD τ) obs fullShare O ∗ (∃ B, ⌜Backs O T I (2 * k) B⌝ ∗ owns (c : Thread nD τ) bp fullShare B)
    ∗ owns (c : Thread nD τ) ttb fullShare Y ∗ owns (c : Thread nD τ) idxb fullShare Y'
    ∗ (∃ Z, ⌜Kept T (fvVal O T (2 * k)) 0 (by decide) 128 Z ∧ Kept T (fvVal O T (2 * k + 1)) 1 (by decide) 128 Z⌝
      ∗ owns (c : Thread nD τ) sb fullShare Z))

theorem trip_spec (obs : Memref sig .tc .vmem SLNC .f32) (bp : Memref sig .tc .vmem SLNC .i32)
    (ttb idxb : Memref sig .tc .vmem SCNC .f32) (sb : Memref sig .tc .vmem S2CNC .f32) (O : Vec F SLNC .f32)
    (T I : Vec F SCC .f32) (Y Y' : Vec F SCNC .f32) (hY : Filled T 128 Y) (hY' : Filled I 128 Y') (k : Nat) (hk : k < 255)
    (oa ob oc od : Fin 3 → Nat)
    (ha : ∀ a, oa a + S1NC.size a ≤ SLNC.size a) (hb : ∀ a, ob a + S1NC.size a ≤ SLNC.size a)
    (hc : ∀ a, oc a + S1NC.size a ≤ SLNC.size a) (hd : ∀ a, od a + S1NC.size a ≤ SLNC.size a)
    (ea : oa = ![2 * k, 0, 0]) (eb : ob = ![2 * k + 1, 0, 0]) (ec : oc = ![2 * k + 2, 0, 0]) (ed : od = ![2 * k + 3, 0, 0])
    (a : FVec F SNC .f32 × FVec F SNC .f32 × FVec F SNC .f32) :
    (fwdInv c obs bp ttb idxb sb O T I Y Y' k a : sProp 𝕄)
      ⊢ wp frame (wpE defs Variants.none (c : Thread nD τ) none) E (trip obs bp ttb idxb sb oa ob oc od ha hb hc hd a)
        fun a' => fwdInv c obs bp ttb idxb sb O T I Y Y' (k + 1) a' := by
  subst ea eb ec ed
  unfold fwdInv trip
  rw [show 2 * (k + 1) + 2 = 2 * k + 3 + 1 from rfl, show 2 * (k + 1) + 1 = 2 * k + 3 from rfl,
    show 2 * (k + 1) = 2 * k + 2 from rfl]
  iintro ⟨%e, HO, HB, HT, HI, ⟨%Z, %hZ, HZ⟩⟩
  subst e
  iapply (wp_then c (pass2_spec c bp idxb sb O T I Y' hY' 0 _ (2 * k) (by omega) Z hZ.1))
  isplitl [HB HI HZ]
  · isplitl [HB]; · iexact HB
    isplitl [HI]; · iexact HI
    iexact HZ
  iintro %u ⟨HB, HI, HZ⟩
  iapply (wp_then c (pass2_spec c bp idxb sb O T I Y' hY' 1 _ (2 * k + 1) (by omega) Z hZ.2))
  isplitl [HB HI HZ]
  · isplitl [HB]; · iexact HB
    isplitl [HI]; · iexact HI
    iexact HZ
  iintro %u' ⟨HB, HI, HZ⟩
  iapply (wp_then c (obsAt_spec c obs O (2 * k + 2) (by omega)))
  isplitl [HO]; · iexact HO
  iintro %x ⟨%hx, HO⟩
  subst hx
  iapply (wp_then c (pass1_spec c ttb sb T Y hY 0 _ (fvVal O T (2 * k + 2)) (fun _ => True)
    (fun _ _ _ _ _ => trivial)))
  isplitl [HT HZ]
  · isplitl [HT]; · iexact HT
    iexists Z
    isplitr
    · ipureintro; trivial
    · iexact HZ
  iintro %m ⟨%hm, HT, ⟨%Z1, %hZ1, HZ⟩⟩
  subst hm
  iapply (wp_then c (obsAt_spec c obs O (2 * k + 3) (by omega)))
  isplitl [HO]; · iexact HO
  iintro %x ⟨%hx, HO⟩
  subst hx
  iapply (wp_then c (pass1_spec c ttb sb T Y hY 1 (by decide) (fvVal O T (2 * k + 3))
    (fun Z => Kept T (fvVal O T (2 * k + 2)) 0 (by decide) 128 Z)
    (fun Z h n hn w => h.other 1 (by decide) (by decide) n hn w)))
  isplitl [HT HZ]
  · isplitl [HT]; · iexact HT
    iexists Z1
    isplitr
    · ipureintro; exact hZ1.1
    · iexact HZ
  iintro %m ⟨%hm, HT, ⟨%Z2, %hZ2, HZ⟩⟩
  subst hm
  rw [wp_ret]
  imodintro
  isplitr
  · ipureintro; rfl
  isplitl [HO]; · iexact HO
  isplitl [HB]; · iexact HB
  isplitl [HT]; · iexact HT
  isplitl [HI]; · iexact HI
  iexists Z2
  isplitr
  · ipureintro; exact ⟨hZ2.2, hZ2.1⟩
  · iexact HZ

theorem fwdTrip_spec (obs : Memref sig .tc .vmem SLNC .f32) (bp : Memref sig .tc .vmem SLNC .i32)
    (ttb idxb : Memref sig .tc .vmem SCNC .f32) (sb : Memref sig .tc .vmem S2CNC .f32) (O : Vec F SLNC .f32)
    (T I : Vec F SCC .f32) (Y Y' : Vec F SCNC .f32) (hY : Filled T 128 Y) (hY' : Filled I 128 Y') (k : Fin fwdLoop.trips)
    (a : FVec F SNC .f32 × FVec F SNC .f32 × FVec F SNC .f32) :
    (fwdInv c obs bp ttb idxb sb O T I Y Y' k.val a : sProp 𝕄)
      ⊢ wp frame (wpE defs Variants.none (c : Thread nD τ) none) E (fwdTrip obs bp ttb idxb sb k a)
        fun a' => fwdInv c obs bp ttb idxb sb O T I Y Y' (k.val + 1) a' := by
  have hk : k.val < 255 := Nat.lt_of_lt_of_eq k.isLt trips_fwd
  have ea : offBp k 2#32 = ![(2 * k.val + 1) - 1, 0, 0] := offBp_eq k 1
  have eb : offBp k 1#32 = ![(2 * k.val + 1) - 0, 0, 0] := offBp_eq k 0
  rw [Nat.add_sub_cancel] at ea
  rw [Nat.sub_zero] at eb
  unfold fwdTrip
  exact trip_spec c obs bp ttb idxb sb O T I Y Y' hY hY' k.val hk
    _ _ _ _ _ _ _ _ ea eb (offObs0_eq k) (offObs1_eq k) a

theorem before_spec (obs : Memref sig .tc .vmem SLNC .f32) (ttd idxd : Memref sig .tc .vmem SCC .f32)
    (bp : Memref sig .tc .vmem SLNC .i32)
    (ttb idxb : Memref sig .tc .vmem SCNC .f32) (sb : Memref sig .tc .vmem S2CNC .f32) (O : Vec F SLNC .f32)
    (T I : Vec F SCC .f32) :
    iprop(owns (c : Thread nD τ) obs fullShare O ∗ owns (c : Thread nD τ) ttd fullShare T
        ∗ owns (c : Thread nD τ) idxd fullShare I ∗ (∃ d, owns (c : Thread nD τ) bp fullShare d)
        ∗ (∃ d, owns (c : Thread nD τ) ttb fullShare d) ∗ (∃ d, owns (c : Thread nD τ) idxb fullShare d)
        ∗ (∃ d, owns (c : Thread nD τ) sb fullShare d) : sProp 𝕄)
      ⊢ wp frame (wpE defs Variants.none (c : Thread nD τ) none) E (before obs ttd idxd ttb idxb sb)
        fun a => iprop(owns (c : Thread nD τ) ttd fullShare T ∗ owns (c : Thread nD τ) idxd fullShare I
          ∗ (∃ Y Y', ⌜Filled T 128 Y ∧ Filled I 128 Y'⌝ ∗ fwdInv c obs bp ttb idxb sb O T I Y Y' 0 a)) := by
  have fill : ∀ d (h : d < 128),
      iprop((owns (c : Thread nD τ) ttd fullShare T ∗ (∃ Y, ⌜Filled T d Y⌝ ∗ owns (c : Thread nD τ) ttb fullShare Y))
        ∗ (owns (c : Thread nD τ) idxd fullShare I ∗ (∃ Y, ⌜Filled I d Y⌝ ∗ owns (c : Thread nD τ) idxb fullShare Y)) : sProp 𝕄)
      ⊢ wp frame (wpE defs Variants.none (c : Thread nD τ) none) E
          (Prog.bind (fillOne ttd ttb d h) fun _ => fillOne idxd idxb d h)
        fun _ => iprop((owns (c : Thread nD τ) ttd fullShare T ∗ (∃ Y, ⌜Filled T (d + 1) Y⌝ ∗ owns (c : Thread nD τ) ttb fullShare Y))
        ∗ (owns (c : Thread nD τ) idxd fullShare I ∗ (∃ Y, ⌜Filled I (d + 1) Y⌝ ∗ owns (c : Thread nD τ) idxb fullShare Y))) := by
    intro d h
    iintro ⟨HT, HI⟩
    iapply (wp_then c (fillOne_spec c ttd ttb T d h))
    isplitl [HT]; · iexact HT
    iintro %u HT
    iapply (wp_wand_r _ _ _)
    isplitl [HI]
    · iapply (fillOne_spec c idxd idxb I d h); iexact HI
    iintro %u' HI
    isplitl [HT]
    · iexact HT
    · iexact HI
  unfold before fwdInv
  iintro ⟨HO, HTd, HId, HB, ⟨%y, HT⟩, ⟨%y', HI⟩, ⟨%z, HZ⟩⟩
  iapply (wp_then c (wp_upTo c _ _ fill 128 0 _))
  isplitl [HTd HT HId HI]
  · isplitl [HTd HT]
    · isplitl [HTd]; · iexact HTd
      iexists y
      isplitr
      · ipureintro; exact Filled.zero T y
      · iexact HT
    · isplitl [HId]; · iexact HId
      iexists y'
      isplitr
      · ipureintro; exact Filled.zero I y'
      · iexact HI
  iintro %u ⟨⟨HTd, ⟨%Y, %hY, HT⟩⟩, ⟨HId, ⟨%Y', %hY', HI⟩⟩⟩
  iapply (wp_then c (obsAt_spec c obs O 0 (by decide)))
  isplitl [HO]; · iexact HO
  iintro %x ⟨%hx, HO⟩
  subst hx
  iapply (wp_then c (pass1_spec c ttb sb T Y hY 0 (by decide) (fvVal O T 0) (fun _ => True) (fun _ _ _ _ _ => trivial)))
  isplitl [HT HZ]
  · isplitl [HT]; · iexact HT
    iexists z
    isplitr
    · ipureintro; trivial
    · iexact HZ
  iintro %m ⟨%hm, HT, ⟨%Z1, %hZ1, HZ⟩⟩
  subst hm
  iapply (wp_then c (obsAt_spec c obs O 1 (by decide)))
  isplitl [HO]; · iexact HO
  iintro %x ⟨%hx, HO⟩
  subst hx
  iapply (wp_then c (pass1_spec c ttb sb T Y hY 1 (by decide) (fvVal O T 1)
    (fun Z => Kept T (fvVal O T 0) 0 (by decide) 128 Z)
    (fun Z h n hn w => h.other 1 (by decide) (by decide) n hn w)))
  isplitl [HT HZ]
  · isplitl [HT]; · iexact HT
    iexists Z1
    isplitr
    · ipureintro; exact hZ1.1
    · iexact HZ
  iintro %m ⟨%hm, HT, ⟨%Z2, %hZ2, HZ⟩⟩
  subst hm
  rw [wp_ret]
  imodintro
  isplitl [HTd]; · iexact HTd
  isplitl [HId]; · iexact HId
  iexists Y, Y'
  isplitr
  · ipureintro; exact ⟨hY, hY'⟩
  isplitr
  · ipureintro; rfl
  isplitl [HO]; · iexact HO
  isplitl [HB]
  · icases HB with ⟨%b, HB⟩
    iexists b
    isplitr
    · ipureintro; exact Backs.zero O T I b
    · iexact HB
  isplitl [HT]; · iexact HT
  isplitl [HI]; · iexact HI
  iexists Z2
  isplitr
  · ipureintro; exact ⟨hZ2.2, hZ2.1⟩
  · iexact HZ

/-! ## The way back -/

/-- What is held after `r` steps back, `bt` the tags reached. -/
def backInv (out : Memref sig .tc .vmem SLN .i32) (bp : Memref sig .tc .vmem SLNC .i32) (O : Vec F SLNC .f32)
    (T I : Vec F SCC .f32) (B : Vec F SLNC .i32) (r : Nat) (bt : IVec SN1 32) : sProp 𝕄 :=
  iprop(⌜bt = tagVal O T I r⌝ ∗ owns (c : Thread nD τ) bp fullShare B
    ∗ (∃ R, ⌜Rows O T I (512 - r) R⌝ ∗ owns (c : Thread nD τ) out fullShare R))

theorem backSteps_spec (out : Memref sig .tc .vmem SLN .i32) (bp : Memref sig .tc .vmem SLNC .i32) (O : Vec F SLNC .f32)
    (T I : Vec F SCC .f32) (B : Vec F SLNC .i32) (hB : Backs O T I 512 B) (k : Fin bwdLoop.trips) :
    ∀ (m s : Nat) (h : s + m ≤ 8) (bt : IVec SN1 32),
      (backInv c out bp O T I B (8 * k.val + s) bt : sProp 𝕄)
        ⊢ wp frame (wpE defs Variants.none (c : Thread nD τ) none) E (backSteps out bp k m s h bt)
          fun bt' => backInv c out bp O T I B (8 * k.val + (s + m)) bt' := by
  intro m
  induction m with
  | zero =>
    intro s h bt
    rw [backSteps, wp_ret]
    exact fupd_intro
  | succ m ih =>
    intro s h bt
    have hk := Nat.lt_of_lt_of_eq k.isLt trips_bwd
    have hp : posBack k (BitVec.ofNat 32 s) = 511 - (8 * k.val + s) := posBack_eq k ⟨s, by omega⟩
    have hlt := posBack_lt k s (by omega)
    have hn : 512 - (8 * k.val + s) = posBack k (BitVec.ofNat 32 s) + 1 := by omega
    have hn' : 512 - (8 * k.val + s + 1) = posBack k (BitVec.ofNat 32 s) := by omega
    have ev : tagBefore (tagVal O T I (8 * k.val + s)) (part (posRect _ hlt) B : Vec F S1NC .i32)
        = tagVal O T I (8 * k.val + s + 1) := by
      have := hB _ hlt hlt
      unfold posVal at this
      unfold tagBefore
      rw [this, hp]
      rfl
    rw [backSteps]
    unfold backInv
    iintro ⟨%e, HB, ⟨%R, %hR, HR⟩⟩
    subst e
    iapply (wp_load_part c) $$ HB
    iintro HB
    iapply (wp_load_part c) $$ HR
    iintro HR
    iapply (wp_store_part c) $$ HR
    iintro HR
    rw [ev]
    rw [show s + (m + 1) = s + 1 + m by omega]
    iapply (ih (s + 1) (by omega) (tagVal O T I (8 * k.val + s + 1)))
    unfold backInv
    isplitr
    · ipureintro; rfl
    isplitl [HB]; · iexact HB
    iexists _
    isplitr
    swap
    · iexact HR
    · ipureintro
      rw [hn] at hR
      have := hR.next hlt
      rw [show 512 - posBack k (BitVec.ofNat 32 s) = 8 * k.val + s + 1 by omega] at this
      rw [show 512 - (8 * k.val + (s + 1)) = posBack k (BitVec.ofNat 32 s) from hn']
      exact this

theorem after_spec (obs : Memref sig .tc .vmem SLNC .f32) (out : Memref sig .tc .vmem SLN .i32)
    (bp : Memref sig .tc .vmem SLNC .i32)
    (ttb idxb : Memref sig .tc .vmem SCNC .f32) (sb : Memref sig .tc .vmem S2CNC .f32) (O : Vec F SLNC .f32)
    (T I : Vec F SCC .f32) (Y Y' : Vec F SCNC .f32) (hY' : Filled I 128 Y')
    (a : FVec F SNC .f32 × FVec F SNC .f32 × FVec F SNC .f32) :
    iprop(fwdInv c obs bp ttb idxb sb O T I Y Y' 255 a ∗ (∃ d, owns (c : Thread nD τ) out fullShare d) : sProp 𝕄)
      ⊢ wp frame (wpE defs Variants.none (c : Thread nD τ) none) E (after out bp idxb sb a)
        fun _ => iprop(owns (c : Thread nD τ) obs fullShare O ∗ owns (c : Thread nD τ) out fullShare (pathVal O T I)
          ∗ (∃ d, owns (c : Thread nD τ) bp fullShare d) ∗ (∃ d, owns (c : Thread nD τ) ttb fullShare d)
          ∗ (∃ d, owns (c : Thread nD τ) idxb fullShare d) ∗ (∃ d, owns (c : Thread nD τ) sb fullShare d)) := by
  unfold fwdInv after
  iintro ⟨⟨%e, HO, HB, HT, HI, ⟨%Z, %hZ, HZ⟩⟩, ⟨%R, HR⟩⟩
  subst e
  iapply (wp_then c (pass2_spec c bp idxb sb O T I Y' hY' 0 _ 510 (by decide) Z hZ.1))
  isplitl [HB HI HZ]
  · isplitl [HB]; · iexact HB
    isplitl [HI]; · iexact HI
    iexact HZ
  iintro %u ⟨HB, HI, HZ⟩
  iapply (wp_then c (pass2_spec c bp idxb sb O T I Y' hY' 1 _ 511 (by decide) Z hZ.2))
  isplitl [HB HI HZ]
  · isplitl [HB]; · iexact HB
    isplitl [HI]; · iexact HI
    iexact HZ
  iintro %u' ⟨⟨%B, %hB, HB⟩, HI, HZ⟩
  iapply (Scf.wp_for_bind frame (wpE defs Variants.none (c : Thread nD τ) none) E _ _ _ bwdLoop_ok
    (lastTag (fvVal O T 512)) (fun k bt => backSteps out bp k 8 0 _ bt)
    (fun k bt => backInv c out bp O T I B (8 * k) bt)
    (fun k bt => backSteps_spec c out bp O T I B hB k 8 0 _ bt)) $$ [HB HR]
  · unfold backInv
    isplitr
    · ipureintro; rfl
    isplitl [HB]; · iexact HB
    iexists R
    isplitr
    · ipureintro; exact Rows.last O T I R
    · iexact HR
  iintro %bt HE
  rw [show Scf.trips bwdLoop.lb bwdLoop.ub bwdLoop.st = 64 from trips_bwd]
  unfold backInv
  icases HE with ⟨%hbt, HB, ⟨%R', %hR', HR⟩⟩
  obtain rfl := Rows.all hR'
  rw [wp_ret]
  imodintro
  isplitl [HO]; · iexact HO
  isplitl [HR]; · iexact HR
  isplitl [HB]; · iexists B; iexact HB
  isplitl [HT]; · iexists Y; iexact HT
  isplitl [HI]; · iexists Y'; iexact HI
  iexists Z; iexact HZ

/-- The whole kernel: from any contents of the output and the scratch buffers, the inputs kept, `pathVal` of them in the
    output. -/
theorem decode_spec (obs : Memref sig .tc .vmem SLNC .f32) (ttd idxd : Memref sig .tc .vmem SCC .f32)
    (out : Memref sig .tc .vmem SLN .i32) (bp : Memref sig .tc .vmem SLNC .i32)
    (ttb idxb : Memref sig .tc .vmem SCNC .f32) (sb : Memref sig .tc .vmem S2CNC .f32) (O : Vec F SLNC .f32)
    (T I : Vec F SCC .f32) :
    iprop(owns (c : Thread nD τ) obs fullShare O ∗ owns (c : Thread nD τ) ttd fullShare T
        ∗ owns (c : Thread nD τ) idxd fullShare I ∗ (∃ d, owns (c : Thread nD τ) out fullShare d)
        ∗ (∃ d, owns (c : Thread nD τ) bp fullShare d)
        ∗ (∃ d, owns (c : Thread nD τ) ttb fullShare d) ∗ (∃ d, owns (c : Thread nD τ) idxb fullShare d)
        ∗ (∃ d, owns (c : Thread nD τ) sb fullShare d) : sProp 𝕄)
      ⊢ wp frame (wpE defs Variants.none (c : Thread nD τ) none) E (decode obs ttd idxd out bp ttb idxb sb)
        fun _ => iprop(owns (c : Thread nD τ) obs fullShare O ∗ owns (c : Thread nD τ) ttd fullShare T
          ∗ owns (c : Thread nD τ) idxd fullShare I ∗ owns (c : Thread nD τ) out fullShare (pathVal O T I)
          ∗ (∃ d, owns (c : Thread nD τ) bp fullShare d) ∗ (∃ d, owns (c : Thread nD τ) ttb fullShare d)
          ∗ (∃ d, owns (c : Thread nD τ) idxb fullShare d) ∗ (∃ d, owns (c : Thread nD τ) sb fullShare d)) := by
  unfold decode
  iintro ⟨HO, HTd, HId, HR, HB, HT, HI, HZ⟩
  iapply (wp_then c (before_spec c obs ttd idxd bp ttb idxb sb O T I))
  isplitl [HO HTd HId HB HT HI HZ]
  · isplitl [HO]; · iexact HO
    isplitl [HTd]; · iexact HTd
    isplitl [HId]; · iexact HId
    isplitl [HB]; · iexact HB
    isplitl [HT]; · iexact HT
    isplitl [HI]; · iexact HI
    iexact HZ
  iintro %w ⟨HTd, HId, ⟨%Y, %Y', %hY, HE⟩⟩
  iapply (Scf.wp_for_bind frame (wpE defs Variants.none (c : Thread nD τ) none) E _ _ _ fwdLoop_ok w
    (fwdTrip obs bp ttb idxb sb) (fun k a => fwdInv c obs bp ttb idxb sb O T I Y Y' k a)
    (fun k a => fwdTrip_spec c obs bp ttb idxb sb O T I Y Y' hY.1 hY.2 k a)) $$ HE
  iintro %a HE
  rw [show Scf.trips fwdLoop.lb fwdLoop.ub fwdLoop.st = 255 from trips_fwd]
  iapply (wp_wand_r _ _ _)
  isplitl [HE HR]
  · iapply (after_spec c obs out bp ttb idxb sb O T I Y Y' hY.2 a)
    isplitl [HE]; · iexact HE
    iexact HR
  iintro %u ⟨HO, HR, HB, HT, HI, HZ⟩
  isplitl [HO]; · iexact HO
  isplitl [HTd]; · iexact HTd
  isplitl [HId]; · iexact HId
  isplitl [HR]; · iexact HR
  isplitl [HB]; · iexact HB
  isplitl [HT]; · iexact HT
  isplitl [HI]; · iexact HI
  iexact HZ

end Viterbi

end
-- ==== Proof.KernelIdealSame.lean ====
module

public import proofs.«01_k».proof.Proof.Gen.KernelIdeal
public import proofs.«01_k».proof.Proof.Struct
public import Idealize.ShloMosaic.Lib.Pipeline.Kit
public meta import Idealize.ShloMosaic.Lib.Pipeline.Regions

/-! # The printed kernel is `Viterbi.decode`

The printed kernel is cut into windows of sixty statements, and its forward loop stands inside a window of a window.
First the loop is brought to the top (its own window and the windows around it opened), and then the two programs are compared effect by effect. -/

@[expose] public section

noncomputable section

namespace Cert.KernelIdeal.Same

open Idealize.ShloMosaic Idealize.SL.Sem Idealize.ShloMosaic.Pipeline Gen

variable {F : FTy → Type} [FloatOps F]

section
variable (arg0 : Memref sig .tc .vmem S512x16x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S512x16 .i32) (harg3 : arg3.IsWhole) (arg4 : Memref sig .tc .vmem S512x16x128 .i32) (harg4 : arg4.IsWhole) (arg5 : Memref sig .tc .vmem S128x16x128 .f32) (harg5 : arg5.IsWhole) (arg6 : Memref sig .tc .vmem S128x16x128 .f32) (harg6 : arg6.IsWhole) (arg7 : Memref sig .tc .vmem S2x128x16x128 .f32) (harg7 : arg7.IsWhole)

/-- The printed kernel is the structured one. -/
theorem kernel_eq :
    cc0__viterbi_kernel (F := F) arg0 harg0 arg1 harg1 arg2 harg2 arg3 harg3 arg4 harg4 arg5 harg5 arg6 harg6 arg7 harg7
      = Viterbi.decode arg0 arg1 arg2 arg3 arg4 arg5 arg6 arg7 := by
  unfold cc0__viterbi_kernel k0_part350 k0_part279
  simp only [Prog.bind_assoc]
  chain_rfl

end

end Cert.KernelIdeal.Same
-- ==== Proof.KernelIdealRun.lean ====
module

public import proofs.«01_k».proof.Proof.Gen.KernelIdeal.Launch
public import proofs.«01_k».proof.Proof.Gen.KernelIdeal.Points
public import proofs.«01_k».proof.Proof.KernelIdealSame
public import proofs.«01_k».proof.Proof.Triple
public import Idealize.ShloMosaic.Lib.Pipeline.FrameBody
public import Idealize.ShloMosaic.Lib.Pipeline.FrameSuffix
public import Idealize.ShloMosaic.Lib.Pipeline.Value
public import Idealize.ShloMosaic.Lib.Claim

/-! # The run of `KernelIdeal`

The launch around the kernel: the host lines before it, the one region whose body is `Viterbi.decode`, and the transpose
after it. Every run ends, leaves the arguments alone, and the result is the transpose of `Viterbi.pathVal` of the three
arrays the host lines made. -/

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- What core `c`'s buffers hold when the kernel starts. -/
abbrev V0 (c : Dev nD) : Valuation τ sig (Elt F) := StableHlo.after (List.flatten [hostOps0]) (fun b => m (c, b))
/-- One of those buffers. -/
abbrev V (c : Dev nD) (b : Ref sig .tc) : Buf (Elt F) ((c : Thread nD τ).loc b) := V0 m c (Proc.devRef .tc b)

theorem pre_fresh : (hostOps0 : List (HloOp τ sig (Elt F))).Forall fun op => op.fresh = ∅ := by
  simp only [List.Forall]; repeat' constructor

theorem around (𝒱₀ : Variants) : Pipeline.HMainK (Ix := Unit) (Name := ℕ) (U := UR sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact pre_fresh) main_chain

/-- A property of the one line after the kernel. -/
theorem tail_forall {p : HloOp τ sig (Elt F) → Prop} (h : ∀ op ∈ (hostOps1 : List (HloOp τ sig (Elt F))), p op) :
    ∀ ops ∈ ([hostOps1] : List (List (HloOp τ sig (Elt F)))), ∀ op ∈ ops, p op := fun ops hops op hop =>
  h op (List.mem_singleton.mp hops ▸ hop)

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact tail_forall fun op hop => Pipeline.sub_ucRefs op ((List.forall_iff_forall_mem.mp hostOps1_sub) op hop)

theorem tail_fresh : ∀ ops ∈ ([hostOps1] : List (List (HloOp τ sig (Elt F)))), ∀ op ∈ ops, op.fresh = ∅ :=
  tail_forall fun _ hop => List.mem_singleton.mp hop ▸ rfl

theorem tail_writes : ∀ op ∈ (hostOps1 : List (HloOp τ sig (Elt F))), op.writes = {Proc.devRef .tc main_v0} :=
  fun _ hop => List.mem_singleton.mp hop ▸ StableHlo.unary_writes ..

theorem tail_keeps : ∀ ops ∈ ([hostOps1] : List (List (HloOp τ sig (Elt F)))), ∀ op ∈ ops,
    ∀ w, Proc.devRef .tc (Pipeline.arrRef spec0 w) ∉ op.writes := by
  have ne : ∀ w, Pipeline.arrRef spec0 w ≠ main_v0 := by decide
  refine tail_forall fun op hop w => ?_
  rw [tail_writes op hop, Finset.mem_singleton]
  exact StableHlo.devRef_ne_of_ne (ne w)

/-- The references the host lines before the kernel write. -/
theorem pre_keeps (b : Ref sig .tc) (hb : b = main_arg0 ∨ b = main_arg1) (c : Dev nD) :
    V m c b = m ((c : Thread nD τ).loc b) := by
  refine StableHlo.after_of_forall_not_mem (b := Proc.devRef .tc b) _ _ (List.forall_iff_forall_mem.mp ?_)
  rcases hb with rfl | rfl
  all_goals
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- An argument ends as it was launched. -/
theorem tail_arg (dats : (p : Fin _) → (c : Dev nD) → Dat τ (Elt F) Unit ℕ (UR sig nD τ) ℕ (cfgs p) c) (c : Dev nD)
    (b : Ref sig .tc) (hb : b = main_arg0 ∨ b = main_arg1) :
    Pipeline.afterTail₀ cfgs dats 0 (V0 m) [hostOps1] c b = m ((c : Thread nD τ).loc b) := by
  have hne : b ≠ main_v0 := by rcases hb with rfl | rfl <;> decide
  have hw : ∀ w, Pipeline.arrRef spec0 w ≠ b := by rcases hb with rfl | rfl <;> decide
  unfold Pipeline.afterTail₀
  rw [StableHlo.after_of_forall_not_mem (b := Proc.devRef .tc b) _ _ (fun op hop => by
      rw [tail_writes op (by simpa using hop), Finset.mem_singleton]
      exact StableHlo.devRef_ne_of_ne hne),
    Pipeline.withArrays_of_ne _ c (V0 m c) _ b hw]
  exact pre_keeps m b hb c

/-! ## The region's data -/

/-- Window `w`'s block as the kernel finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The output block the kernel leaves. -/
def oblk (c : Dev nD) (t : Fin cfg0.N) : Vec F S512x16 .i32 :=
  Viterbi.pathVal (iblk m c 0 t) (iblk m c 1 t) (iblk m c 2 t)

/-- The arrays as the kernel finds them, and each block after the body: the inputs' as they were, the output's `oblk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oblk m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)

/-- The scratch buffers, each at some contents, and the generator's register. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-! ## The body -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Same.kernel_eq]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩⟩
  iapply (wp_wand_r _ _ _)
  isplitl [H0 H1 H2 H3 HS0 HS1 HS2 HS3]
  · iapply (Viterbi.decode_spec (defs := defs₀ (F := F)) c _ _ _ _ _ _ _ _ (iblk m c 0 t) (iblk m c 1 t) (iblk m c 2 t))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iexact HS3
  iintro %u ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ :=
  fun t => by
    rw [bigSep_W0, bigSep_W0, body_row]
    exact triple_restated (body_sound m c t) rfl .rfl fun _ => .rfl

/-! ## The run -/

set_option backward.isDefEq.respectTransparency.types false in
set_option maxHeartbeats 800000 in
/-- Every run ends with the region's arrays and the buffers after the last line named, and every counter at zero. -/
theorem run_named : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := around m Variants.none) (hA := A_eq m) (hΦ := fun _ _ => rfl)

/-- Every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (tail_arg m _ c _ (.inl rfl)),
     ((h.1 c).2 main_arg1 (Pipeline.mem_restRefs_of main_arg1 (by decide) (by decide))).trans (tail_arg m _ c _ (.inr rfl))⟩,
    h.2⟩) (run_named m ρ)

end Cert.KernelIdeal.Run

end
-- ==== Proof.RefLines.lean ====
module

public import proofs.«01_k».proof.Proof.Gen.ReferenceIdeal
public import Idealize.ShloMosaic.Lib.Pipeline.Regions
public import Idealize.ShloMosaic.Lib.StableHlo.RunLoop
public meta import Idealize.ShloMosaic.Lib.Pipeline.Regions

/-! # The reference's lines

The reference as lists of host lines: those before its first loop, that loop's body, those between the loops, the second
loop's body, and those after it. A function called in a body is a list of its own. Each list touches the TensorCore's
buffers only, and each block of the program is the chain of its lists. -/

@[expose] public section

noncomputable section

namespace Cert.ReferenceIdeal.Lines

open Cert.ReferenceIdeal Cert.ReferenceIdeal.Gen
open Idealize.ShloMosaic Idealize.ShloMosaic.TcCoe
open Idealize.SL.Sem
open Idealize.ShloMosaic.Pipeline

variable {F : FTy → Type} [FloatOps F]

/-- call fn_dynamic_index_in_dim -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v4_0 : StableHlo.TRef sig ⟨S512x16x128, .f32⟩) ![(.of main_v4_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x128, .f32⟩) (fun x i => Host.dynamicSlice S1x16x128 x (fun k => (i k (Shape.Idx.first h_S_)).toInt) sliceFits_S512x16x128_S1x16x128),
    StableHlo.TRef.reshape (.of main_while0b_call0_v0 : StableHlo.TRef sig ⟨S1x16x128, .f32⟩) (.of main_while0b_v19 : StableHlo.TRef sig ⟨S16x128, .f32⟩) (rfl : (.f32 : EltTy) = .f32) shapeCasts_S1x16x128_S16x128 ]
theorem fwd0_sub : (fwd0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- the loop's own lines -/
abbrev fwd1 : List (HloOp τ sig (Elt F)) :=
  [ StableHlo.unary main_v4_3 main_while0b_v20 (broadcastInDim S16x1x128 ![0, 2] bcast_S16x128_S16x1x128_0_2 : (⟨S16x128, .f32⟩ : BufTy).Contents (Elt F) → (⟨S16x1x128, .f32⟩ : BufTy).Contents (Elt F)),
    StableHlo.unary main_v4_1 main_while0b_v21 (broadcastInDim S1x128x128 ![1, 2] bcast_S128x128_S1x128x128_1_2 : (⟨S128x128, .f32⟩ : BufTy).Contents (Elt F) → (⟨S1x128x128, .f32⟩ : BufTy).Contents (Elt F)),
    StableHlo.unary main_while0b_v20 main_while0b_v22 (broadcastInDim S16x128x128 ![0, 1, 2] bcast_S16x1x128_S16x128x128_0_1_2 : (⟨S16x1x128, .f32⟩ : BufTy).Contents (Elt F) → (⟨S16x128x128, .f32⟩ : BufTy).Contents (Elt F)),
    StableHlo.unary main_while0b_v21 main_while0b_v23 (broadcastInDim S16x128x128 ![0, 1, 2] bcast_S1x128x128_S16x128x128_0_1_2 : (⟨S1x128x128, .f32⟩ : BufTy).Contents (Elt F) → (⟨S16x128x128, .f32⟩ : BufTy).Contents (Elt F)),
    StableHlo.binary main_while0b_v22 main_while0b_v23 main_while0b_v24 (addf : (⟨S16x128x128, .f32⟩ : BufTy).Contents (Elt F) → (⟨S16x128x128, .f32⟩ : BufTy).Contents (Elt F) → (⟨S16x128x128, .f32⟩ : BufTy).Contents (Elt F)) ]
theorem fwd1_sub : (fwd1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub ..⟩

/-- call fn_argmax -/
abbrev fwd2 : List (HloOp τ sig (Elt F)) :=
  [ StableHlo.TRef.nullary (.of main_while0b_call1_v0 : StableHlo.TRef sig ⟨S16x128x128, .i32⟩) (iotaInDim S16x128x128 32 2),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v24 : StableHlo.TRef sig ⟨S16x128x128, .f32⟩) (.of main_while0b_call1_v0 : StableHlo.TRef sig ⟨S16x128x128, .i32⟩) (.of main_while0b_call1_cst : StableHlo.TRef sig ⟨S_, .f32⟩) (.of main_while0b_call1_c : StableHlo.TRef sig ⟨S_, .i32⟩) (.of main_while0b_call1_v1_0 : StableHlo.TRef sig ⟨S16x128, .f32⟩) (fun x y u v j => (Host.argReduce reducer_argmax_f32_i32 x y u v reducesTo_S16x128x128_S16x128_d2 h_S_ j).1),
    StableHlo.TRef.quaternary (.of main_while0b_v24 : StableHlo.TRef sig ⟨S16x128x128, .f32⟩) (.of main_while0b_call1_v0 : StableHlo.TRef sig ⟨S16x128x128, .i32⟩) (.of main_while0b_call1_cst : StableHlo.TRef sig ⟨S_, .f32⟩) (.of main_while0b_call1_c : StableHlo.TRef sig ⟨S_, .i32⟩) (.of main_while0b_v25 : StableHlo.TRef sig ⟨S16x128, .i32⟩) (fun x y u v j => (Host.argReduce reducer_argmax_f32_i32 x y u v reducesTo_S16x128x128_S16x128_d2 h_S_ j).2) ]
theorem fwd2_sub : (fwd2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- the loop's own lines -/
abbrev fwd3 : List (HloOp τ sig (Elt F)) :=
  [ StableHlo.nullary main_while0b_cst_13 (constant S_ .f32 0xFF800000#32),
    StableHlo.binary main_while0b_v24 main_while0b_cst_13 main_while0b_v26 ((fun x v => Host.reduce FloatOps.maximumf x v reducesTo_S16x128x128_S16x128_d2 h_S_) : (⟨S16x128x128, .f32⟩ : BufTy).Contents (Elt F) → (⟨S_, .f32⟩ : BufTy).Contents (Elt F) → (⟨S16x128, .f32⟩ : BufTy).Contents (Elt F)),
    StableHlo.binary main_while0b_v26 main_while0b_v19 main_while0b_v27 (addf : (⟨S16x128, .f32⟩ : BufTy).Contents (Elt F) → (⟨S16x128, .f32⟩ : BufTy).Contents (Elt F) → (⟨S16x128, .f32⟩ : BufTy).Contents (Elt F)) ]
theorem fwd3_sub : (fwd3 : List (HloOp τ sig (Elt F))).Forall fun op => op.bufs ⊆ StableHlo.tcRefs τ sig :=
  ⟨StableHlo.nullary_bufs_sub .., StableHlo.binary_bufs_sub .., StableHlo.binary_bufs_sub ..⟩

/-- call fn_argmax_0 -/
abbrev fwd4 : List (HloOp τ sig (Elt F)) :=
  [ StableHlo.TRef.nullary (.of main_while0b_call2_v0 : StableHlo.TRef sig ⟨S16x128, .i32⟩) (iotaInDim S16x128 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v27 : StableHlo.TRef sig ⟨S16x128, .f32⟩) (.of main_while0b_call2_v0 : StableHlo.TRef sig ⟨S16x128, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v j => (Host.argReduce reducer_argmax_f32_i32 x y u v reducesTo_S16x128_S16_d1 h_S_ j).1),
    StableHlo.TRef.quaternary (.of main_while0b_v27 : StableHlo.TRef sig ⟨S16x128, .f32⟩) (.of main_while0b_call2_v0 : StableHlo.TRef sig ⟨S16x128, .i32⟩) (.of main_while0b_call2_cst : StableHlo.TRef sig ⟨S_, .f32⟩) (.of main_while0b_call2_c : StableHlo.TRef sig ⟨S_, .i32⟩) (.of main_while0b_v28 : StableHlo.TRef sig ⟨S16, .i32⟩) (fun x y u v j => (Host.argReduce reducer_argmax_f32_i32 x y u v reducesTo_S16x128_S16_d1 h_S_ j).2) ]
theorem fwd4_sub : (fwd4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- call fn_dynamic_update_index_in_dim -/
abbrev fwd5 : List (HloOp τ sig (Elt F)) :=
  [ StableHlo.TRef.unary (.of main_while0b_v25 : StableHlo.TRef sig ⟨S16x128, .i32⟩) (.of main_while0b_call3_v0 : StableHlo.TRef sig ⟨S1x16x128, .i32⟩) (broadcastInDim S1x16x128 ![1, 2] bcast_S16x128_S1x16x128_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v4_4 : StableHlo.TRef sig ⟨S512x16x128, .i32⟩) (.of main_while0b_call3_v0 : StableHlo.TRef sig ⟨S1x16x128, .i32⟩) ![(.of main_v4_2 : StableHlo.TRef sig ⟨S_, .i32⟩), (.of main_while0b_call3_c : StableHlo.TRef sig ⟨S_, .i32⟩), (.of main_while0b_call3_c_0 : StableHlo.TRef sig ⟨S_, .i32⟩)] (.of main_while0b_v29 : StableHlo.TRef sig ⟨S512x16x128, .i32⟩) (fun x u i => Host.dynamicUpdateSlice x u (fun k => (i k (Shape.Idx.first h_S_)).toInt) updateFits_S512x16x128_S1x16x128) ]
theorem fwd5_sub : (fwd5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- call fn_dynamic_update_index_in_dim_1 -/
abbrev fwd6 : List (HloOp τ sig (Elt F)) :=
  [ StableHlo.TRef.unary (.of main_while0b_v28 : StableHlo.TRef sig ⟨S16, .i32⟩) (.of main_while0b_call4_v0 : StableHlo.TRef sig ⟨S1x16, .i32⟩) (broadcastInDim S1x16 ![1] bcast_S16_S1x16_1),
    StableHlo.TRef.nullary (.of main_while0b_call4_c : StableHlo.TRef sig ⟨S_, .i32⟩) (constantI S_ 32 0#32),
    StableHlo.TRef.binaryIndexed (.of main_v4_5 : StableHlo.TRef sig ⟨S512x16, .i32⟩) (.of main_while0b_call4_v0 : StableHlo.TRef sig ⟨S1x16, .i32⟩) ![(.of main_v4_2 : StableHlo.TRef sig ⟨S_, .i32⟩), (.of main_while0b_call4_c : StableHlo.TRef sig ⟨S_, .i32⟩)] (.of main_while0b_v30 : StableHlo.TRef sig ⟨S512x16, .i32⟩) (fun x u i => Host.dynamicUpdateSlice x u (fun k => (i k (Shape.Idx.first h_S_)).toInt) updateFits_S512x16_S1x16) ]
theorem fwd6_sub : (fwd6 : List (HloOp τ sig (Elt F))).Forall fun op => op.bufs ⊆ StableHlo.tcRefs τ sig :=
  ⟨StableHlo.unary_bufs_sub .., StableHlo.nullary_bufs_sub .., StableHlo.binaryIndexed_bufs_sub ..⟩

/-- the loop's own lines -/
abbrev fwd7 : List (HloOp τ sig (Elt F)) :=
  [ StableHlo.nullary main_while0b_c_14 (constantI S_ 32 1#32),
    StableHlo.binary main_v4_2 main_while0b_c_14 main_while0b_v31 (addi : (⟨S_, .i32⟩ : BufTy).Contents (Elt F) → (⟨S_, .i32⟩ : BufTy).Contents (Elt F) → (⟨S_, .i32⟩ : BufTy).Contents (Elt F)),
    StableHlo.unary main_while0b_v31 main_v4_2 id,
    StableHlo.unary main_while0b_v27 main_v4_3 id,
    StableHlo.unary main_while0b_v29 main_v4_4 id,
    StableHlo.unary main_while0b_v30 main_v4_5 id ]
theorem fwd7_sub : (fwd7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- call fn_dynamic_index_in_dim_2 -/
abbrev bwd0 : List (HloOp τ sig (Elt F)) :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.unaryIndexed (.of main_v16_0 : StableHlo.TRef sig ⟨S512x16x128, .i32⟩) ![(.of main_v16_3 : StableHlo.TRef sig ⟨S_, .i32⟩), (.of main_while1b_call5_c : StableHlo.TRef sig ⟨S_, .i32⟩), (.of main_while1b_call5_c_0 : StableHlo.TRef sig ⟨S_, .i32⟩)] (.of main_while1b_call5_v0 : StableHlo.TRef sig ⟨S1x16x128, .i32⟩) (fun x i => Host.dynamicSlice S1x16x128 x (fun k => (i k (Shape.Idx.first h_S_)).toInt) sliceFits_S512x16x128_S1x16x128),
    StableHlo.TRef.reshape (.of main_while1b_call5_v0 : StableHlo.TRef sig ⟨S1x16x128, .i32⟩) (.of main_while1b_v19 : StableHlo.TRef sig ⟨S16x128, .i32⟩) (rfl : (.i32 : EltTy) = .i32) shapeCasts_S1x16x128_S16x128 ]
theorem bwd0_sub : (bwd0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- call fn_dynamic_index_in_dim_3 -/
abbrev bwd1 : List (HloOp τ sig (Elt F)) :=
  [ StableHlo.TRef.nullary (.of main_while1b_call6_c : StableHlo.TRef sig ⟨S_, .i32⟩) (constantI S_ 32 0#32),
    StableHlo.TRef.unaryIndexed (.of main_v16_1 : StableHlo.TRef sig ⟨S512x16, .i32⟩) ![(.of main_v16_3 : StableHlo.TRef sig ⟨S_, .i32⟩), (.of main_while1b_call6_c : StableHlo.TRef sig ⟨S_, .i32⟩)] (.of main_while1b_call6_v0 : StableHlo.TRef sig ⟨S1x16, .i32⟩) (fun x i => Host.dynamicSlice S1x16 x (fun k => (i k (Shape.Idx.first h_S_)).toInt) sliceFits_S512x16_S1x16),
    StableHlo.TRef.reshape (.of main_while1b_call6_v0 : StableHlo.TRef sig ⟨S1x16, .i32⟩) (.of main_while1b_v20 : StableHlo.TRef sig ⟨S16, .i32⟩) (rfl : (.i32 : EltTy) = .i32) shapeCasts_S1x16_S16 ]
theorem bwd1_sub : (bwd1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- call fn_dynamic_index_in_dim_4 -/
abbrev bwd2 : List (HloOp τ sig (Elt F)) :=
  [ StableHlo.TRef.unaryIndexed (.of main_v16_2 : StableHlo.TRef sig ⟨S512, .i1⟩) ![(.of main_v16_3 : StableHlo.TRef sig ⟨S_, .i32⟩)] (.of main_while1b_call7_v0 : StableHlo.TRef sig ⟨S1, .i1⟩) (fun x i => Host.dynamicSlice S1 x (fun k => (i k (Shape.Idx.first h_S_)).toInt) sliceFits_S512_S1),
    StableHlo.TRef.reshape (.of main_while1b_call7_v0 : StableHlo.TRef sig ⟨S1, .i1⟩) (.of main_while1b_v21 : StableHlo.TRef sig ⟨S_, .i1⟩) (rfl : (.i1 : EltTy) = .i1) shapeCasts_S1_S_ ]
theorem bwd2_sub : (bwd2 : List (HloOp τ sig (Elt F))).Forall fun op => op.bufs ⊆ StableHlo.tcRefs τ sig :=
  ⟨StableHlo.unaryIndexed_bufs_sub .., StableHlo.reshape_bufs_sub ..⟩

/-- call fn_where -/
abbrev bwd3 : List (HloOp τ sig (Elt F)) :=
  [ StableHlo.TRef.ternary (.of main_while1b_v21 : StableHlo.TRef sig ⟨S_, .i1⟩) (.of main_while1b_v20 : StableHlo.TRef sig ⟨S16, .i32⟩) (.of main_v16_4 : StableHlo.TRef sig ⟨S16, .i32⟩) (.of main_while1b_v22 : StableHlo.TRef sig ⟨S16, .i32⟩) (fun p a b => select (broadcastInDim S16 ![] bcast_S_S16 p) a b) ]
theorem bwd3_sub : (bwd3 : List (HloOp τ sig (Elt F))).Forall fun op => op.bufs ⊆ StableHlo.tcRefs τ sig :=
  StableHlo.ternary_bufs_sub ..

/-- the loop's own lines -/
abbrev bwd4 : List (HloOp τ sig (Elt F)) :=
  [ StableHlo.unary main_while1b_v22 main_while1b_v23 (broadcastInDim S16x1 ![0] bcast_S16_S16x1_0 : (⟨S16, .i32⟩ : BufTy).Contents (Elt F) → (⟨S16x1, .i32⟩ : BufTy).Contents (Elt F)) ]
theorem bwd4_sub : (bwd4 : List (HloOp τ sig (Elt F))).Forall fun op => op.bufs ⊆ StableHlo.tcRefs τ sig :=
  StableHlo.unary_bufs_sub ..

/-- call fn_take_along_axis -/
abbrev bwd5 : List (HloOp τ sig (Elt F)) :=
  [ StableHlo.TRef.nullary (.of main_while1b_call9_c : StableHlo.TRef sig ⟨S_, .i32⟩) (constantI S_ 32 0#32),
    StableHlo.TRef.unary (.of main_while1b_call9_c : StableHlo.TRef sig ⟨S_, .i32⟩) (.of main_while1b_call9_v0 : StableHlo.TRef sig ⟨S16x1, .i32⟩) (broadcastInDim S16x1 ![] bcast_S_S16x1),
    StableHlo.TRef.binary (.of main_while1b_v23 : StableHlo.TRef sig ⟨S16x1, .i32⟩) (.of main_while1b_call9_v0 : StableHlo.TRef sig ⟨S16x1, .i32⟩) (.of main_while1b_call9_v1 : StableHlo.TRef sig ⟨S16x1, .i1⟩) (cmpi .slt),
    StableHlo.TRef.nullary (.of main_while1b_call9_c_0 : StableHlo.TRef sig ⟨S_, .i32⟩) (constantI S_ 32 128#32),
    StableHlo.TRef.unary (.of main_while1b_call9_c_0 : StableHlo.TRef sig ⟨S_, .i32⟩) (.of main_while1b_call9_v2 : StableHlo.TRef sig ⟨S16x1, .i32⟩) (broadcastInDim S16x1 ![] bcast_S_S16x1),
    StableHlo.TRef.binary (.of main_while1b_v23 : StableHlo.TRef sig ⟨S16x1, .i32⟩) (.of main_while1b_call9_v2 : StableHlo.TRef sig ⟨S16x1, .i32⟩) (.of main_while1b_call9_v3 : StableHlo.TRef sig ⟨S16x1, .i32⟩) addi,
    StableHlo.TRef.ternary (.of main_while1b_call9_v1 : StableHlo.TRef sig ⟨S16x1, .i1⟩) (.of main_while1b_call9_v3 : StableHlo.TRef sig ⟨S16x1, .i32⟩) (.of main_while1b_v23 : StableHlo.TRef sig ⟨S16x1, .i32⟩) (.of main_while1b_call9_v4 : StableHlo.TRef sig ⟨S16x1, .i32⟩) select,
    StableHlo.TRef.reshape (.of main_while1b_call9_v4 : StableHlo.TRef sig ⟨S16x1, .i32⟩) (.of main_while1b_call9_v5 : StableHlo.TRef sig ⟨S16x1x1, .i32⟩) (rfl : (.i32 : EltTy) = .i32) shapeCasts_S16x1_S16x1x1,
    StableHlo.TRef.nullary (.of main_while1b_call9_c_1 : StableHlo.TRef sig ⟨S1, .i32⟩) (constantI S1 32 127#32),
    StableHlo.TRef.nullary (.of main_while1b_call9_c_2 : StableHlo.TRef sig ⟨S_, .i32⟩) (constantI S_ 32 0#32),
    StableHlo.TRef.unary (.of main_while1b_call9_c_2 : StableHlo.TRef sig ⟨S_, .i32⟩) (.of main_while1b_call9_v6 : StableHlo.TRef sig ⟨S16x1x1, .i32⟩) (broadcastInDim S16x1x1 ![] bcast_S_S16x1x1),
    StableHlo.TRef.binary (.of main_while1b_call9_v5 : StableHlo.TRef sig ⟨S16x1x1, .i32⟩) (.of main_while1b_call9_v6 : StableHlo.TRef sig ⟨S16x1x1, .i32⟩) (.of main_while1b_call9_v7 : StableHlo.TRef sig ⟨S16x1x1, .i1⟩) (cmpi .sge),
    StableHlo.TRef.unary (.of main_while1b_call9_c_1 : StableHlo.TRef sig ⟨S1, .i32⟩) (.of main_while1b_call9_v8 : StableHlo.TRef sig ⟨S1x1x1, .i32⟩) (broadcastInDim S1x1x1 ![2] bcast_S1_S1x1x1_2),
    StableHlo.TRef.unary (.of main_while1b_call9_v8 : StableHlo.TRef sig ⟨S1x1x1, .i32⟩) (.of main_while1b_call9_v9 : StableHlo.TRef sig ⟨S16x1x1, .i32⟩) (broadcastInDim S16x1x1 ![0, 1, 2] bcast_S1x1x1_S16x1x1_0_1_2),
    StableHlo.TRef.binary (.of main_while1b_call9_v5 : StableHlo.TRef sig ⟨S16x1x1, .i32⟩) (.of main_while1b_call9_v9 : StableHlo.TRef sig ⟨S16x1x1, .i32⟩) (.of main_while1b_call9_v10 : StableHlo.TRef sig ⟨S16x1x1, .i1⟩) (cmpi .sle),
    StableHlo.TRef.binary (.of main_while1b_call9_v7 : StableHlo.TRef sig ⟨S16x1x1, .i1⟩) (.of main_while1b_call9_v10 : StableHlo.TRef sig ⟨S16x1x1, .i1⟩) (.of main_while1b_call9_v11 : StableHlo.TRef sig ⟨S16x1x1, .i1⟩) andi,
    StableHlo.TRef.nullary (.of main_while1b_call9_c_3 : StableHlo.TRef sig ⟨S_, .i1⟩) (constantI S_ 1 1#1),
    StableHlo.TRef.binary (.of main_while1b_call9_v11 : StableHlo.TRef sig ⟨S16x1x1, .i1⟩) (.of main_while1b_call9_c_3 : StableHlo.TRef sig ⟨S_, .i1⟩) (.of main_while1b_call9_v12 : StableHlo.TRef sig ⟨S16x1, .i1⟩) (fun x v => Host.reduce IntOp.andi x v reducesTo_S16x1x1_S16x1_d2 h_S_),
    StableHlo.TRef.binary (.of main_while1b_v19 : StableHlo.TRef sig ⟨S16x128, .i32⟩) (.of main_while1b_call9_v5 : StableHlo.TRef sig ⟨S16x1x1, .i32⟩) (.of main_while1b_call9_v13 : StableHlo.TRef sig ⟨S16x1, .i32⟩) (fun x i => Host.gather gather_S16x128_S16x1x1_S16x1_n_1_0_0_1_2_11 x i),
    StableHlo.TRef.nullary (.of main_while1b_call9_c_4 : StableHlo.TRef sig ⟨S_, .i32⟩) (constantI S_ 32 2147483648#32),
    StableHlo.TRef.unary (.of main_while1b_call9_c_4 : StableHlo.TRef sig ⟨S_, .i32⟩) (.of main_while1b_call9_v14 : StableHlo.TRef sig ⟨S16x1, .i32⟩) (broadcastInDim S16x1 ![] bcast_S_S16x1),
    StableHlo.TRef.ternary (.of main_while1b_call9_v12 : StableHlo.TRef sig ⟨S16x1, .i1⟩) (.of main_while1b_call9_v13 : StableHlo.TRef sig ⟨S16x1, .i32⟩) (.of main_while1b_call9_v14 : StableHlo.TRef sig ⟨S16x1, .i32⟩) (.of main_while1b_v24 : StableHlo.TRef sig ⟨S16x1, .i32⟩) select ]
theorem bwd5_sub : (bwd5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- the loop's own lines -/
abbrev bwd6 : List (HloOp τ sig (Elt F)) :=
  [ StableHlo.reshape main_while1b_v24 main_while1b_v25 (rfl : (.i32 : EltTy) = .i32) shapeCasts_S16x1_S16 ]
theorem bwd6_sub : (bwd6 : List (HloOp τ sig (Elt F))).Forall fun op => op.bufs ⊆ StableHlo.tcRefs τ sig :=
  StableHlo.reshape_bufs_sub ..

/-- call fn_dynamic_update_index_in_dim_1 -/
abbrev bwd7 : List (HloOp τ sig (Elt F)) :=
  [ StableHlo.TRef.unary (.of main_while1b_v25 : StableHlo.TRef sig ⟨S16, .i32⟩) (.of main_while1b_call10_v0 : StableHlo.TRef sig ⟨S1x16, .i32⟩) (broadcastInDim S1x16 ![1] bcast_S16_S1x16_1),
    StableHlo.TRef.nullary (.of main_while1b_call10_c : StableHlo.TRef sig ⟨S_, .i32⟩) (constantI S_ 32 0#32),
    StableHlo.TRef.binaryIndexed (.of main_v16_5 : StableHlo.TRef sig ⟨S512x16, .i32⟩) (.of main_while1b_call10_v0 : StableHlo.TRef sig ⟨S1x16, .i32⟩) ![(.of main_v16_3 : StableHlo.TRef sig ⟨S_, .i32⟩), (.of main_while1b_call10_c : StableHlo.TRef sig ⟨S_, .i32⟩)] (.of main_while1b_v26 : StableHlo.TRef sig ⟨S512x16, .i32⟩) (fun x u i => Host.dynamicUpdateSlice x u (fun k => (i k (Shape.Idx.first h_S_)).toInt) updateFits_S512x16_S1x16) ]
theorem bwd7_sub : (bwd7 : List (HloOp τ sig (Elt F))).Forall fun op => op.bufs ⊆ StableHlo.tcRefs τ sig :=
  ⟨StableHlo.unary_bufs_sub .., StableHlo.nullary_bufs_sub .., StableHlo.binaryIndexed_bufs_sub ..⟩

/-- the loop's own lines -/
abbrev bwd8 : List (HloOp τ sig (Elt F)) :=
  [ StableHlo.nullary main_while1b_c_13 (constantI S_ 32 1#32),
    StableHlo.binary main_v16_3 main_while1b_c_13 main_while1b_v27 (addi : (⟨S_, .i32⟩ : BufTy).Contents (Elt F) → (⟨S_, .i32⟩ : BufTy).Contents (Elt F) → (⟨S_, .i32⟩ : BufTy).Contents (Elt F)),
    StableHlo.unary main_while1b_v27 main_v16_3 id,
    StableHlo.unary main_while1b_v25 main_v16_4 id,
    StableHlo.unary main_while1b_v26 main_v16_5 id ]
theorem bwd8_sub : (bwd8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- entry -/
abbrev entry : List (HloOp τ sig (Elt F)) :=
  [ StableHlo.unary main_arg0 main_v0 ((transpose S512x16x128 [2, 0, 1] · transposes_S16x128x512_S512x16x128_2_0_1) : (⟨S16x128x512, .f32⟩ : BufTy).Contents (Elt F) → (⟨S512x16x128, .f32⟩ : BufTy).Contents (Elt F)),
    StableHlo.nullary main_cst (constant S_ .f32 0x00000000#32),
    StableHlo.unary main_cst main_v1 (broadcastInDim S16x128 ![] bcast_S_S16x128 : (⟨S_, .f32⟩ : BufTy).Contents (Elt F) → (⟨S16x128, .f32⟩ : BufTy).Contents (Elt F)),
    StableHlo.nullary main_c (constantI S_ 32 0#32),
    StableHlo.unary main_c main_v2 (broadcastInDim S512x16x128 ![] bcast_S_S512x16x128 : (⟨S_, .i32⟩ : BufTy).Contents (Elt F) → (⟨S512x16x128, .i32⟩ : BufTy).Contents (Elt F)),
    StableHlo.nullary main_c_0 (constantI S_ 32 0#32),
    StableHlo.unary main_c_0 main_v3 (broadcastInDim S512x16 ![] bcast_S_S512x16 : (⟨S_, .i32⟩ : BufTy).Contents (Elt F) → (⟨S512x16, .i32⟩ : BufTy).Contents (Elt F)),
    StableHlo.nullary main_c_1 (constantI S_ 32 0#32),
    StableHlo.unary main_v0 main_v4_0 id,
    StableHlo.unary main_arg1 main_v4_1 id,
    StableHlo.unary main_c_1 main_v4_2 id,
    StableHlo.unary main_v1 main_v4_3 id,
    StableHlo.unary main_v2 main_v4_4 id,
    StableHlo.unary main_v3 main_v4_5 id ]
theorem entry_sub : (entry : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- between -/
abbrev between : List (HloOp τ sig (Elt F)) :=
  [ StableHlo.unary main_v4_4 main_v5 (Host.reverse [0] : (⟨S512x16x128, .i32⟩ : BufTy).Contents (Elt F) → (⟨S512x16x128, .i32⟩ : BufTy).Contents (Elt F)),
    StableHlo.unary main_v4_5 main_v6 (Host.reverse [0] : (⟨S512x16, .i32⟩ : BufTy).Contents (Elt F) → (⟨S512x16, .i32⟩ : BufTy).Contents (Elt F)),
    StableHlo.nullary main_v7 (iotaInDim S512 32 0),
    StableHlo.nullary main_c_2 (constantI S_ 32 4294967295#32),
    StableHlo.unary main_c_2 main_v8 (broadcastInDim S512 ![] bcast_S_S512 : (⟨S_, .i32⟩ : BufTy).Contents (Elt F) → (⟨S512, .i32⟩ : BufTy).Contents (Elt F)),
    StableHlo.binary main_v8 main_v7 main_v9 (muli : (⟨S512, .i32⟩ : BufTy).Contents (Elt F) → (⟨S512, .i32⟩ : BufTy).Contents (Elt F) → (⟨S512, .i32⟩ : BufTy).Contents (Elt F)),
    StableHlo.nullary main_c_3 (constantI S_ 32 511#32),
    StableHlo.unary main_c_3 main_v10 (broadcastInDim S512 ![] bcast_S_S512 : (⟨S_, .i32⟩ : BufTy).Contents (Elt F) → (⟨S512, .i32⟩ : BufTy).Contents (Elt F)),
    StableHlo.binary main_v10 main_v9 main_v11 (addi : (⟨S512, .i32⟩ : BufTy).Contents (Elt F) → (⟨S512, .i32⟩ : BufTy).Contents (Elt F) → (⟨S512, .i32⟩ : BufTy).Contents (Elt F)),
    StableHlo.nullary main_c_4 (constantI S_ 32 511#32),
    StableHlo.unary main_c_4 main_v12 (broadcastInDim S512 ![] bcast_S_S512 : (⟨S_, .i32⟩ : BufTy).Contents (Elt F) → (⟨S512, .i32⟩ : BufTy).Contents (Elt F)),
    StableHlo.binary main_v11 main_v12 main_v13 (cmpi .eq : (⟨S512, .i32⟩ : BufTy).Contents (Elt F) → (⟨S512, .i32⟩ : BufTy).Contents (Elt F) → (⟨S512, .i1⟩ : BufTy).Contents (Elt F)),
    StableHlo.nullary main_c_5 (constantI S_ 32 0#32),
    StableHlo.unary main_c_5 main_v14 (broadcastInDim S16 ![] bcast_S_S16 : (⟨S_, .i32⟩ : BufTy).Contents (Elt F) → (⟨S16, .i32⟩ : BufTy).Contents (Elt F)),
    StableHlo.nullary main_c_6 (constantI S_ 32 0#32),
    StableHlo.unary main_c_6 main_v15 (broadcastInDim S512x16 ![] bcast_S_S512x16 : (⟨S_, .i32⟩ : BufTy).Contents (Elt F) → (⟨S512x16, .i32⟩ : BufTy).Contents (Elt F)),
    StableHlo.nullary main_c_7 (constantI S_ 32 0#32),
    StableHlo.unary main_v5 main_v16_0 id,
    StableHlo.unary main_v6 main_v16_1 id,
    StableHlo.unary main_v13 main_v16_2 id,
    StableHlo.unary main_c_7 main_v16_3 id,
    StableHlo.unary main_v14 main_v16_4 id,
    StableHlo.unary main_v15 main_v16_5 id ]
theorem between_sub : (between : List (HloOp τ sig (Elt F))).Forall fun op => op.bufs ⊆ StableHlo.tcRefs τ sig :=
  ⟨StableHlo.unary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- tail -/
abbrev tail : List (HloOp τ sig (Elt F)) :=
  [ StableHlo.unary main_v16_5 main_v17 (Host.reverse [0] : (⟨S512x16, .i32⟩ : BufTy).Contents (Elt F) → (⟨S512x16, .i32⟩ : BufTy).Contents (Elt F)),
    StableHlo.unary main_v17 main_v18 ((transpose S16x512 [1, 0] · transposes_S512x16_S16x512_1_0) : (⟨S512x16, .i32⟩ : BufTy).Contents (Elt F) → (⟨S16x512, .i32⟩ : BufTy).Contents (Elt F)) ]
theorem tail_sub : (tail : List (HloOp τ sig (Elt F))).Forall fun op => op.bufs ⊆ StableHlo.tcRefs τ sig :=
  ⟨StableHlo.unary_bufs_sub .., StableHlo.unary_bufs_sub ..⟩

/-! ## The blocks -/

abbrev fwdCond : List (HloOp τ sig (Elt F)) :=
  [ StableHlo.nullary main_while0c_c_13 (constantI S_ 32 512#32),
    StableHlo.binary main_v4_2 main_while0c_c_13 main_while0c_v19 (cmpi .slt) ]
abbrev bwdCond : List (HloOp τ sig (Elt F)) :=
  [ StableHlo.nullary main_while1c_c_13 (constantI S_ 32 512#32),
    StableHlo.binary main_v16_3 main_while1c_c_13 main_while1c_v19 (cmpi .slt) ]

/-- The forward loop's body. -/
abbrev fwdBody : List (List (HloOp τ sig (Elt F))) := [fwd0, fwd1, fwd2, fwd3, fwd4, fwd5, fwd6, fwd7]
/-- The backward loop's body. -/
abbrev bwdBody : List (List (HloOp τ sig (Elt F))) := [bwd0, bwd1, bwd2, bwd3, bwd4, bwd5, bwd6, bwd7, bwd8]

/-- The program's type. -/
abbrev Code : Type _ := Prog (TpuEff nD τ sig (Elt F) (HostLoop.Sig (Pipeline.Sig Λ₀ (Fin 0) fun p => (pcfgs (F := F) p).Adm) 2) .tc) PUnit

theorem main_chain (c : Dev nD) : main (F := F) c = (Pipeline.chain
    [StableHlo.seq entry, HostLoop.enter 0, StableHlo.seq between, HostLoop.enter 1, StableHlo.seq tail] : Code (F := F)) := by
  rewrite [StableHlo.chain_seq_cons, Pipeline.chain_cons, StableHlo.chain_seq_cons, Pipeline.chain_cons]
  chain_rfl

theorem fwd_chain : main_while0_body (F := F) = (Pipeline.chain (fwdBody.map fun ops => StableHlo.seq ops) : Code (F := F)) := by
  show _ = Pipeline.chain [StableHlo.seq fwd0, StableHlo.seq fwd1, StableHlo.seq fwd2, StableHlo.seq fwd3, StableHlo.seq fwd4,
    StableHlo.seq fwd5, StableHlo.seq fwd6, StableHlo.seq fwd7]
  rewrite [Pipeline.chain_cons, StableHlo.chain_seq_cons, Pipeline.chain_cons, StableHlo.chain_seq_cons, Pipeline.chain_cons,
    Pipeline.chain_cons, Pipeline.chain_cons]
  chain_rfl

theorem bwd_chain : main_while1_body (F := F) = (Pipeline.chain (bwdBody.map fun ops => StableHlo.seq ops) : Code (F := F)) := by
  show _ = Pipeline.chain [StableHlo.seq bwd0, StableHlo.seq bwd1, StableHlo.seq bwd2, StableHlo.seq bwd3, StableHlo.seq bwd4,
    StableHlo.seq bwd5, StableHlo.seq bwd6, StableHlo.seq bwd7, StableHlo.seq bwd8]
  rewrite [Pipeline.chain_cons, Pipeline.chain_cons, Pipeline.chain_cons, Pipeline.chain_cons, StableHlo.chain_seq_cons,
    Pipeline.chain_cons, StableHlo.chain_seq_cons, Pipeline.chain_cons]
  chain_rfl

end Cert.ReferenceIdeal.Lines

end
-- ==== Proof.RefTrip.lean ====
module

public import proofs.«01_k».proof.Proof.RefLines
public import Idealize.ShloMosaic.Lib.StableHlo.RunRead
public import Idealize.ShloMosaic.Lib.StableHlo.RunClose

/-! # What the reference's lines compute

Each list of lines as one function of the arrays it reads; a loop's body is those functions one after another. -/

@[expose] public section

set_option maxRecDepth 8192

noncomputable section

namespace Cert.ReferenceIdeal.Lines

open Cert.ReferenceIdeal Cert.ReferenceIdeal.Gen
open Idealize.ShloMosaic Idealize.ShloMosaic.TcCoe Idealize.ShloMosaic.StableHlo
open Idealize.SL.Sem

variable {F : FTy → Type} [FloatOps F]

/-! ## The functions -/

/-- Starts at row `k` of a two-axis array, and of a three-axis array. -/
def from2 (k : Vec F S_ .i32) : Fin 2 → Int := fun a =>
  ((![k, constantI S_ 32 0#32] : Fin 2 → Vec F S_ .i32) a (Shape.Idx.first h_S_)).toInt
def from3 (k : Vec F S_ .i32) : Fin 3 → Int := fun a =>
  ((![k, constantI S_ 32 0#32, constantI S_ 32 0#32] : Fin 3 → Vec F S_ .i32) a (Shape.Idx.first h_S_)).toInt

/-- Row `k` of an array of rows. -/
def row3 {e : EltTy} (x : Vec F S512x16x128 e) (k : Vec F S_ .i32) : Vec F S16x128 e :=
  shapeCast S16x128 (Host.dynamicSlice S1x16x128 x (from3 k) sliceFits_S512x16x128_S1x16x128) shapeCasts_S1x16x128_S16x128
def row2 {e : EltTy} (x : Vec F S512x16 e) (k : Vec F S_ .i32) : Vec F S16 e :=
  shapeCast S16 (Host.dynamicSlice S1x16 x (from2 k) sliceFits_S512x16_S1x16) shapeCasts_S1x16_S16
def entry1 {e : EltTy} (x : Vec F S512 e) (k : Vec F S_ .i32) : Vec F S_ e :=
  shapeCast S_ (Host.dynamicSlice S1 x (fun a => ((![k] : Fin 1 → Vec F S_ .i32) a (Shape.Idx.first h_S_)).toInt) sliceFits_S512_S1) shapeCasts_S1_S_

/-- An array of rows with row `k` replaced. -/
def put3 (x : Vec F S512x16x128 .i32) (k : Vec F S_ .i32) (r : Vec F S16x128 .i32) : Vec F S512x16x128 .i32 :=
  Host.dynamicUpdateSlice x (broadcastInDim S1x16x128 ![1, 2] bcast_S16x128_S1x16x128_1_2 r) (from3 k) updateFits_S512x16x128_S1x16x128
def put2 (x : Vec F S512x16 .i32) (k : Vec F S_ .i32) (r : Vec F S16 .i32) : Vec F S512x16 .i32 :=
  Host.dynamicUpdateSlice x (broadcastInDim S1x16 ![1] bcast_S16_S1x16_1 r) (from2 k) updateFits_S512x16_S1x16

/-- The scores of every (next, previous) pair of tags. -/
def scores (T : Vec F S128x128 .f32) (f : Vec F S16x128 .f32) : Vec F S16x128x128 .f32 :=
  addf (broadcastInDim S16x128x128 ![0, 1, 2] bcast_S16x1x128_S16x128x128_0_1_2
      (broadcastInDim S16x1x128 ![0, 2] bcast_S16x128_S16x1x128_0_2 f))
    (broadcastInDim S16x128x128 ![0, 1, 2] bcast_S1x128x128_S16x128x128_0_1_2
      (broadcastInDim S1x128x128 ![1, 2] bcast_S128x128_S1x128x128_1_2 T))

/-- The best previous tag of each next tag, and the score it gives. -/
def argBest (s : Vec F S16x128x128 .f32) : Vec F S16x128 .i32 := fun j =>
  (Host.argReduce reducer_argmax_f32_i32 s (iotaInDim S16x128x128 32 2) (constant S_ .f32 0xFF800000#32) (constantI S_ 32 0#32)
    reducesTo_S16x128x128_S16x128_d2 h_S_ j).2
def best (s : Vec F S16x128x128 .f32) : Vec F S16x128 .f32 :=
  Host.reduce FloatOps.maximumf s (constant S_ .f32 0xFF800000#32) reducesTo_S16x128x128_S16x128_d2 h_S_

/-- The best last tag. -/
def argLast (f : Vec F S16x128 .f32) : Vec F S16 .i32 := fun j =>
  (Host.argReduce reducer_argmax_f32_i32 f (iotaInDim S16x128 32 1) (constant S_ .f32 0xFF800000#32) (constantI S_ 32 0#32)
    reducesTo_S16x128_S16_d1 h_S_ j).2

/-- One plus a counter. -/
def next (k : Vec F S_ .i32) : Vec F S_ .i32 := addi k (constantI S_ 32 1#32)

/-- The last tag in the first trip, the tag so far afterwards. -/
def startOr (l : Vec F S_ .i1) (a b : Vec F S16 .i32) : Vec F S16 .i32 := select (broadcastInDim S16 ![] bcast_S_S16 l) a b

/-- A column index below zero counted from the end, as a box of index vectors. -/
def fixedIdx (i : Vec F S16x1 .i32) : Vec F S16x1x1 .i32 :=
  shapeCast S16x1x1 (select (cmpi .slt i (broadcastInDim S16x1 ![] bcast_S_S16x1 (constantI S_ 32 0#32)))
    (addi i (broadcastInDim S16x1 ![] bcast_S_S16x1 (constantI S_ 32 128#32))) i) shapeCasts_S16x1_S16x1x1

/-- Whether that index is a column. -/
def inRange (i : Vec F S16x1x1 .i32) : Vec F S16x1 .i1 :=
  Host.reduce IntOp.andi
    (andi (cmpi .sge i (broadcastInDim S16x1x1 ![] bcast_S_S16x1x1 (constantI S_ 32 0#32)))
      (cmpi .sle i (broadcastInDim S16x1x1 ![0, 1, 2] bcast_S1x1x1_S16x1x1_0_1_2
        (broadcastInDim S1x1x1 ![2] bcast_S1_S1x1x1_2 (constantI S1 32 127#32)))))
    (constantI S_ 1 1#1) reducesTo_S16x1x1_S16x1_d2 h_S_

/-- The entry of each row at that row's index. -/
def along (x : Vec F S16x128 .i32) (i : Vec F S16x1 .i32) : Vec F S16x1 .i32 :=
  select (inRange (F := F) (fixedIdx (F := F) i))
    (Host.gather gather_S16x128_S16x1x1_S16x1_n_1_0_0_1_2_11 x (fixedIdx (F := F) i))
    (broadcastInDim S16x1 ![] bcast_S_S16x1 (constantI S_ 32 2147483648#32))

/-- The tag before tag `t`, from the table of best previous tags. -/
def stepBack (x : Vec F S16x128 .i32) (t : Vec F S16 .i32) : Vec F S16 .i32 :=
  shapeCast S16 (along x (broadcastInDim S16x1 ![0] bcast_S16_S16x1_0 t)) shapeCasts_S16x1_S16

/-! ## The lists -/

variable (X : Valuation τ sig (Elt F))

theorem fwd0_v19 : after fwd0 X (Proc.devRef .tc main_while0b_v19)
    = row3 (X (Proc.devRef .tc main_v4_0)) (X (Proc.devRef .tc main_v4_2)) := by
  unfold row3 from3
  after_results_entrywise [cast_eq]

theorem fwd1_v24 : after fwd1 X (Proc.devRef .tc main_while0b_v24)
    = scores (X (Proc.devRef .tc main_v4_1)) (X (Proc.devRef .tc main_v4_3)) := by
  after_reads_simp
  rfl

theorem fwd2_v25 : after fwd2 X (Proc.devRef .tc main_while0b_v25) = argBest (X (Proc.devRef .tc main_while0b_v24)) := by
  after_reads_simp
  rfl

theorem fwd3_v27 : after fwd3 X (Proc.devRef .tc main_while0b_v27)
    = addf (best (X (Proc.devRef .tc main_while0b_v24))) (X (Proc.devRef .tc main_while0b_v19)) := by
  after_reads_simp
  rfl

theorem fwd4_v28 : after fwd4 X (Proc.devRef .tc main_while0b_v28) = argLast (X (Proc.devRef .tc main_while0b_v27)) := by
  after_reads_simp
  rfl

theorem fwd5_v29 : after fwd5 X (Proc.devRef .tc main_while0b_v29)
    = put3 (X (Proc.devRef .tc main_v4_4)) (X (Proc.devRef .tc main_v4_2)) (X (Proc.devRef .tc main_while0b_v25)) := by
  unfold put3 from3
  after_results_entrywise [cast_eq]

theorem fwd6_v30 : after fwd6 X (Proc.devRef .tc main_while0b_v30)
    = put2 (X (Proc.devRef .tc main_v4_5)) (X (Proc.devRef .tc main_v4_2)) (X (Proc.devRef .tc main_while0b_v28)) := by
  unfold put2 from2
  after_results_entrywise [cast_eq]

theorem bwd0_v19 : after bwd0 X (Proc.devRef .tc main_while1b_v19)
    = row3 (X (Proc.devRef .tc main_v16_0)) (X (Proc.devRef .tc main_v16_3)) := by
  unfold row3 from3
  after_results_entrywise [cast_eq]

theorem bwd1_v20 : after bwd1 X (Proc.devRef .tc main_while1b_v20)
    = row2 (X (Proc.devRef .tc main_v16_1)) (X (Proc.devRef .tc main_v16_3)) := by
  unfold row2 from2
  after_results_entrywise [cast_eq]

theorem bwd2_v21 : after bwd2 X (Proc.devRef .tc main_while1b_v21)
    = entry1 (X (Proc.devRef .tc main_v16_2)) (X (Proc.devRef .tc main_v16_3)) := by
  unfold entry1
  after_results_entrywise [cast_eq]

theorem bwd3_v22 : after bwd3 X (Proc.devRef .tc main_while1b_v22)
    = startOr (X (Proc.devRef .tc main_while1b_v21)) (X (Proc.devRef .tc main_while1b_v20)) (X (Proc.devRef .tc main_v16_4)) := by
  after_reads_simp
  rfl

theorem bwd4_v23 : after bwd4 X (Proc.devRef .tc main_while1b_v23)
    = broadcastInDim S16x1 ![0] bcast_S16_S16x1_0 (X (Proc.devRef .tc main_while1b_v22)) := by
  after_reads_simp

theorem bwd5_v24 : after bwd5 X (Proc.devRef .tc main_while1b_v24)
    = along (X (Proc.devRef .tc main_while1b_v19)) (X (Proc.devRef .tc main_while1b_v23)) := by
  after_reads_simp
  rfl

theorem bwd6_v25 : after bwd6 X (Proc.devRef .tc main_while1b_v25)
    = shapeCast S16 (X (Proc.devRef .tc main_while1b_v24)) shapeCasts_S16x1_S16 := by
  after_reads_simp
  rfl

theorem bwd7_v26 : after bwd7 X (Proc.devRef .tc main_while1b_v26)
    = put2 (X (Proc.devRef .tc main_v16_5)) (X (Proc.devRef .tc main_v16_3)) (X (Proc.devRef .tc main_while1b_v25)) := by
  unfold put2 from2
  after_results_entrywise [cast_eq]

theorem fwd7_k : after fwd7 X (Proc.devRef .tc main_v4_2) = next (X (Proc.devRef .tc main_v4_2)) := by
  after_reads_simp
  rfl
theorem fwd7_f : after fwd7 X (Proc.devRef .tc main_v4_3) = X (Proc.devRef .tc main_while0b_v27) := by
  after_reads_simp
  rfl
theorem fwd7_b : after fwd7 X (Proc.devRef .tc main_v4_4) = X (Proc.devRef .tc main_while0b_v29) := by
  after_reads_simp
  rfl
theorem fwd7_e : after fwd7 X (Proc.devRef .tc main_v4_5) = X (Proc.devRef .tc main_while0b_v30) := by
  after_reads_simp
  rfl

theorem bwd8_k : after bwd8 X (Proc.devRef .tc main_v16_3) = next (X (Proc.devRef .tc main_v16_3)) := by
  after_reads_simp
  rfl
theorem bwd8_t : after bwd8 X (Proc.devRef .tc main_v16_4) = X (Proc.devRef .tc main_while1b_v25) := by
  after_reads_simp
  rfl
theorem bwd8_p : after bwd8 X (Proc.devRef .tc main_v16_5) = X (Proc.devRef .tc main_while1b_v26) := by
  after_reads_simp
  rfl

/-! ## What each list leaves alone -/

abbrev fwd0Writes : List (Ref sig .tc) := [main_while0b_call0_c, main_while0b_call0_c_0, main_while0b_call0_v0, main_while0b_v19]
theorem fwd0_keeps {r : Ref sig .tc} (h : r ∉ fwd0Writes) : after fwd0 X (Proc.devRef .tc r) = X (Proc.devRef .tc r) :=
  after_unwritten fwd0Writes rfl h X

abbrev fwd1Writes : List (Ref sig .tc) := [main_while0b_v20, main_while0b_v21, main_while0b_v22, main_while0b_v23, main_while0b_v24]
theorem fwd1_keeps {r : Ref sig .tc} (h : r ∉ fwd1Writes) : after fwd1 X (Proc.devRef .tc r) = X (Proc.devRef .tc r) :=
  after_unwritten fwd1Writes rfl h X

abbrev fwd2Writes : List (Ref sig .tc) := [main_while0b_call1_v0, main_while0b_call1_cst, main_while0b_call1_c, main_while0b_call1_v1_0, main_while0b_v25]
theorem fwd2_keeps {r : Ref sig .tc} (h : r ∉ fwd2Writes) : after fwd2 X (Proc.devRef .tc r) = X (Proc.devRef .tc r) :=
  after_unwritten fwd2Writes rfl h X

abbrev fwd3Writes : List (Ref sig .tc) := [main_while0b_cst_13, main_while0b_v26, main_while0b_v27]
theorem fwd3_keeps {r : Ref sig .tc} (h : r ∉ fwd3Writes) : after fwd3 X (Proc.devRef .tc r) = X (Proc.devRef .tc r) :=
  after_unwritten fwd3Writes rfl h X

abbrev fwd4Writes : List (Ref sig .tc) := [main_while0b_call2_v0, main_while0b_call2_cst, main_while0b_call2_c, main_while0b_call2_v1_0, main_while0b_v28]
theorem fwd4_keeps {r : Ref sig .tc} (h : r ∉ fwd4Writes) : after fwd4 X (Proc.devRef .tc r) = X (Proc.devRef .tc r) :=
  after_unwritten fwd4Writes rfl h X

abbrev fwd5Writes : List (Ref sig .tc) := [main_while0b_call3_v0, main_while0b_call3_c, main_while0b_call3_c_0, main_while0b_v29]
theorem fwd5_keeps {r : Ref sig .tc} (h : r ∉ fwd5Writes) : after fwd5 X (Proc.devRef .tc r) = X (Proc.devRef .tc r) :=
  after_unwritten fwd5Writes rfl h X

abbrev fwd6Writes : List (Ref sig .tc) := [main_while0b_call4_v0, main_while0b_call4_c, main_while0b_v30]
theorem fwd6_keeps {r : Ref sig .tc} (h : r ∉ fwd6Writes) : after fwd6 X (Proc.devRef .tc r) = X (Proc.devRef .tc r) :=
  after_unwritten fwd6Writes rfl h X

abbrev fwd7Writes : List (Ref sig .tc) := [main_while0b_c_14, main_while0b_v31, main_v4_2, main_v4_3, main_v4_4, main_v4_5]
theorem fwd7_keeps {r : Ref sig .tc} (h : r ∉ fwd7Writes) : after fwd7 X (Proc.devRef .tc r) = X (Proc.devRef .tc r) :=
  after_unwritten fwd7Writes rfl h X

abbrev bwd0Writes : List (Ref sig .tc) := [main_while1b_call5_c, main_while1b_call5_c_0, main_while1b_call5_v0, main_while1b_v19]
theorem bwd0_keeps {r : Ref sig .tc} (h : r ∉ bwd0Writes) : after bwd0 X (Proc.devRef .tc r) = X (Proc.devRef .tc r) :=
  after_unwritten bwd0Writes rfl h X

abbrev bwd1Writes : List (Ref sig .tc) := [main_while1b_call6_c, main_while1b_call6_v0, main_while1b_v20]
theorem bwd1_keeps {r : Ref sig .tc} (h : r ∉ bwd1Writes) : after bwd1 X (Proc.devRef .tc r) = X (Proc.devRef .tc r) :=
  after_unwritten bwd1Writes rfl h X

abbrev bwd2Writes : List (Ref sig .tc) := [main_while1b_call7_v0, main_while1b_v21]
theorem bwd2_keeps {r : Ref sig .tc} (h : r ∉ bwd2Writes) : after bwd2 X (Proc.devRef .tc r) = X (Proc.devRef .tc r) :=
  after_unwritten bwd2Writes rfl h X

abbrev bwd3Writes : List (Ref sig .tc) := [main_while1b_v22]
theorem bwd3_keeps {r : Ref sig .tc} (h : r ∉ bwd3Writes) : after bwd3 X (Proc.devRef .tc r) = X (Proc.devRef .tc r) :=
  after_unwritten bwd3Writes rfl h X

abbrev bwd4Writes : List (Ref sig .tc) := [main_while1b_v23]
theorem bwd4_keeps {r : Ref sig .tc} (h : r ∉ bwd4Writes) : after bwd4 X (Proc.devRef .tc r) = X (Proc.devRef .tc r) :=
  after_unwritten bwd4Writes rfl h X

abbrev bwd5Writes : List (Ref sig .tc) := [main_while1b_call9_c, main_while1b_call9_v0, main_while1b_call9_v1, main_while1b_call9_c_0, main_while1b_call9_v2, main_while1b_call9_v3, main_while1b_call9_v4, main_while1b_call9_v5, main_while1b_call9_c_1, main_while1b_call9_c_2, main_while1b_call9_v6, main_while1b_call9_v7, main_while1b_call9_v8, main_while1b_call9_v9, main_while1b_call9_v10, main_while1b_call9_v11, main_while1b_call9_c_3, main_while1b_call9_v12, main_while1b_call9_v13, main_while1b_call9_c_4, main_while1b_call9_v14, main_while1b_v24]
theorem bwd5_keeps {r : Ref sig .tc} (h : r ∉ bwd5Writes) : after bwd5 X (Proc.devRef .tc r) = X (Proc.devRef .tc r) :=
  after_unwritten bwd5Writes rfl h X

abbrev bwd6Writes : List (Ref sig .tc) := [main_while1b_v25]
theorem bwd6_keeps {r : Ref sig .tc} (h : r ∉ bwd6Writes) : after bwd6 X (Proc.devRef .tc r) = X (Proc.devRef .tc r) :=
  after_unwritten bwd6Writes rfl h X

abbrev bwd7Writes : List (Ref sig .tc) := [main_while1b_call10_v0, main_while1b_call10_c, main_while1b_v26]
theorem bwd7_keeps {r : Ref sig .tc} (h : r ∉ bwd7Writes) : after bwd7 X (Proc.devRef .tc r) = X (Proc.devRef .tc r) :=
  after_unwritten bwd7Writes rfl h X

abbrev bwd8Writes : List (Ref sig .tc) := [main_while1b_c_13, main_while1b_v27, main_v16_3, main_v16_4, main_v16_5]
theorem bwd8_keeps {r : Ref sig .tc} (h : r ∉ bwd8Writes) : after bwd8 X (Proc.devRef .tc r) = X (Proc.devRef .tc r) :=
  after_unwritten bwd8Writes rfl h X

abbrev entryWrites : List (Ref sig .tc) := [main_v0, main_cst, main_v1, main_c, main_v2, main_c_0, main_v3, main_c_1, main_v4_0, main_v4_1, main_v4_2, main_v4_3, main_v4_4, main_v4_5]
theorem entry_keeps {r : Ref sig .tc} (h : r ∉ entryWrites) : after entry X (Proc.devRef .tc r) = X (Proc.devRef .tc r) :=
  after_unwritten entryWrites rfl h X

abbrev betweenWrites : List (Ref sig .tc) := [main_v5, main_v6, main_v7, main_c_2, main_v8, main_v9, main_c_3, main_v10, main_v11, main_c_4, main_v12, main_v13, main_c_5, main_v14, main_c_6, main_v15, main_c_7, main_v16_0, main_v16_1, main_v16_2, main_v16_3, main_v16_4, main_v16_5]
theorem between_keeps {r : Ref sig .tc} (h : r ∉ betweenWrites) : after between X (Proc.devRef .tc r) = X (Proc.devRef .tc r) :=
  after_unwritten betweenWrites rfl h X

abbrev tailWrites : List (Ref sig .tc) := [main_v17, main_v18]
theorem tail_keeps {r : Ref sig .tc} (h : r ∉ tailWrites) : after tail X (Proc.devRef .tc r) = X (Proc.devRef .tc r) :=
  after_unwritten tailWrites rfl h X

abbrev fwdCondWrites : List (Ref sig .tc) := [main_while0c_c_13, main_while0c_v19]
theorem fwdCond_keeps {r : Ref sig .tc} (h : r ∉ fwdCondWrites) : after fwdCond X (Proc.devRef .tc r) = X (Proc.devRef .tc r) :=
  after_unwritten fwdCondWrites rfl h X

abbrev bwdCondWrites : List (Ref sig .tc) := [main_while1c_c_13, main_while1c_v19]
theorem bwdCond_keeps {r : Ref sig .tc} (h : r ∉ bwdCondWrites) : after bwdCond X (Proc.devRef .tc r) = X (Proc.devRef .tc r) :=
  after_unwritten bwdCondWrites rfl h X

/-! ## The lines outside the loops -/

theorem entry_obs : after entry X (Proc.devRef .tc main_v4_0)
    = transpose S512x16x128 [2, 0, 1] (X (Proc.devRef .tc main_arg0)) transposes_S16x128x512_S512x16x128_2_0_1 := by
  after_reads_simp
  rfl
theorem entry_trans : after entry X (Proc.devRef .tc main_v4_1) = X (Proc.devRef .tc main_arg1) := by
  after_reads_simp
  rfl
theorem entry_k : after entry X (Proc.devRef .tc main_v4_2) = constantI S_ 32 0#32 := by
  after_reads_simp
  rfl
theorem entry_f : after entry X (Proc.devRef .tc main_v4_3)
    = broadcastInDim S16x128 ![] bcast_S_S16x128 (constant S_ .f32 0x00000000#32) := by
  after_reads_simp
  rfl
theorem between_b : after between X (Proc.devRef .tc main_v16_0)
    = (Host.reverse [0] (X (Proc.devRef .tc main_v4_4)) : Vec F S512x16x128 .i32) := by
  after_reads_simp
  rfl
theorem between_e : after between X (Proc.devRef .tc main_v16_1)
    = (Host.reverse [0] (X (Proc.devRef .tc main_v4_5)) : Vec F S512x16 .i32) := by
  after_reads_simp
  rfl

/-- Which backward trip is at the last time: step `511 - k` is `511`. -/
def lastMask : Vec F S512 .i1 :=
  cmpi .eq (addi (broadcastInDim S512 ![] bcast_S_S512 (constantI S_ 32 511#32))
      (muli (broadcastInDim S512 ![] bcast_S_S512 (constantI S_ 32 4294967295#32)) (iotaInDim S512 32 0)))
    (broadcastInDim S512 ![] bcast_S_S512 (constantI S_ 32 511#32))

theorem between_l : after between X (Proc.devRef .tc main_v16_2) = lastMask (F := F) := by
  after_reads_simp
  rfl
theorem between_k : after between X (Proc.devRef .tc main_v16_3) = constantI S_ 32 0#32 := by
  after_reads_simp
  rfl
theorem tail_out : after tail X (Proc.devRef .tc main_v18)
    = transpose S16x512 [1, 0] (Host.reverse [0] (X (Proc.devRef .tc main_v16_5)) : Vec F S512x16 .i32) transposes_S512x16_S16x512_1_0 := by
  after_reads_simp

/-! ## One trip -/

/-- The buffers after a forward trip, and after a backward one. -/
abbrev fwdTrip : Valuation τ sig (Elt F) := afterL fwdBody (after fwdCond X)
abbrev bwdTrip : Valuation τ sig (Elt F) := afterL bwdBody (after bwdCond X)

theorem fwdTrip_keeps {r : Ref sig .tc} (h : r ∉ fwdCondWrites ++ fwd0Writes ++ fwd1Writes ++ fwd2Writes ++ fwd3Writes ++ fwd4Writes
    ++ fwd5Writes ++ fwd6Writes ++ fwd7Writes) : fwdTrip X (Proc.devRef .tc r) = X (Proc.devRef .tc r) := by
  simp only [List.mem_append, not_or] at h
  obtain ⟨⟨⟨⟨⟨⟨⟨⟨hc, h0⟩, h1⟩, h2⟩, h3⟩, h4⟩, h5⟩, h6⟩, h7⟩ := h
  simp only [fwdTrip, fwdBody, afterL_cons, afterL_nil]
  rw [fwd7_keeps _ h7, fwd6_keeps _ h6, fwd5_keeps _ h5, fwd4_keeps _ h4, fwd3_keeps _ h3, fwd2_keeps _ h2, fwd1_keeps _ h1,
    fwd0_keeps _ h0, fwdCond_keeps _ hc]

theorem bwdTrip_keeps {r : Ref sig .tc} (h : r ∉ bwdCondWrites ++ bwd0Writes ++ bwd1Writes ++ bwd2Writes ++ bwd3Writes ++ bwd4Writes
    ++ bwd5Writes ++ bwd6Writes ++ bwd7Writes ++ bwd8Writes) : bwdTrip X (Proc.devRef .tc r) = X (Proc.devRef .tc r) := by
  simp only [List.mem_append, not_or] at h
  obtain ⟨⟨⟨⟨⟨⟨⟨⟨⟨hc, h0⟩, h1⟩, h2⟩, h3⟩, h4⟩, h5⟩, h6⟩, h7⟩, h8⟩ := h
  simp only [bwdTrip, bwdBody, afterL_cons, afterL_nil]
  rw [bwd8_keeps _ h8, bwd7_keeps _ h7, bwd6_keeps _ h6, bwd5_keeps _ h5, bwd4_keeps _ h4, bwd3_keeps _ h3, bwd2_keeps _ h2,
    bwd1_keeps _ h1, bwd0_keeps _ h0, bwdCond_keeps _ hc]

/-- The state after a forward trip. -/
theorem fwd_k : fwdTrip X (Proc.devRef .tc main_v4_2) = next (X (Proc.devRef .tc main_v4_2)) := by
  simp only [fwdTrip, fwdBody, afterL_cons, afterL_nil]
  rw [fwd7_k]
  repeat rw [fwd6_keeps _ (by decide)]
  repeat rw [fwd5_keeps _ (by decide)]
  repeat rw [fwd4_keeps _ (by decide)]
  repeat rw [fwd3_keeps _ (by decide)]
  repeat rw [fwd2_keeps _ (by decide)]
  repeat rw [fwd1_keeps _ (by decide)]
  repeat rw [fwd0_keeps _ (by decide)]
  repeat rw [fwdCond_keeps _ (by decide)]

theorem fwd_f : fwdTrip X (Proc.devRef .tc main_v4_3)
    = addf (best (scores (X (Proc.devRef .tc main_v4_1)) (X (Proc.devRef .tc main_v4_3))))
      (row3 (X (Proc.devRef .tc main_v4_0)) (X (Proc.devRef .tc main_v4_2))) := by
  simp only [fwdTrip, fwdBody, afterL_cons, afterL_nil]
  rw [fwd7_f]
  repeat rw [fwd6_keeps _ (by decide)]
  repeat rw [fwd5_keeps _ (by decide)]
  repeat rw [fwd4_keeps _ (by decide)]
  rw [fwd3_v27]
  repeat rw [fwd2_keeps _ (by decide)]
  rw [fwd1_v24]
  repeat rw [fwd1_keeps _ (by decide)]
  rw [fwd0_v19]
  repeat rw [fwd0_keeps _ (by decide)]
  repeat rw [fwdCond_keeps _ (by decide)]

theorem fwd_b : fwdTrip X (Proc.devRef .tc main_v4_4)
    = put3 (X (Proc.devRef .tc main_v4_4)) (X (Proc.devRef .tc main_v4_2))
      (argBest (scores (X (Proc.devRef .tc main_v4_1)) (X (Proc.devRef .tc main_v4_3)))) := by
  simp only [fwdTrip, fwdBody, afterL_cons, afterL_nil]
  rw [fwd7_b]
  repeat rw [fwd6_keeps _ (by decide)]
  rw [fwd5_v29]
  repeat rw [fwd4_keeps _ (by decide)]
  repeat rw [fwd3_keeps _ (by decide)]
  rw [fwd2_v25]
  repeat rw [fwd2_keeps _ (by decide)]
  rw [fwd1_v24]
  repeat rw [fwd1_keeps _ (by decide)]
  repeat rw [fwd0_keeps _ (by decide)]
  repeat rw [fwdCond_keeps _ (by decide)]

theorem fwd_e : fwdTrip X (Proc.devRef .tc main_v4_5)
    = put2 (X (Proc.devRef .tc main_v4_5)) (X (Proc.devRef .tc main_v4_2)) (argLast (fwdTrip X (Proc.devRef .tc main_v4_3))) := by
  rw [fwd_f]
  simp only [fwdTrip, fwdBody, afterL_cons, afterL_nil]
  rw [fwd7_e]
  rw [fwd6_v30]
  repeat rw [fwd5_keeps _ (by decide)]
  rw [fwd4_v28]
  repeat rw [fwd4_keeps _ (by decide)]
  rw [fwd3_v27]
  repeat rw [fwd3_keeps _ (by decide)]
  repeat rw [fwd2_keeps _ (by decide)]
  rw [fwd1_v24]
  repeat rw [fwd1_keeps _ (by decide)]
  rw [fwd0_v19]
  repeat rw [fwd0_keeps _ (by decide)]
  repeat rw [fwdCond_keeps _ (by decide)]

/-- The state after a backward trip. -/
theorem bwd_k : bwdTrip X (Proc.devRef .tc main_v16_3) = next (X (Proc.devRef .tc main_v16_3)) := by
  simp only [bwdTrip, bwdBody, afterL_cons, afterL_nil]
  rw [bwd8_k]
  repeat rw [bwd7_keeps _ (by decide)]
  repeat rw [bwd6_keeps _ (by decide)]
  repeat rw [bwd5_keeps _ (by decide)]
  repeat rw [bwd4_keeps _ (by decide)]
  repeat rw [bwd3_keeps _ (by decide)]
  repeat rw [bwd2_keeps _ (by decide)]
  repeat rw [bwd1_keeps _ (by decide)]
  repeat rw [bwd0_keeps _ (by decide)]
  repeat rw [bwdCond_keeps _ (by decide)]

theorem bwd_t : bwdTrip X (Proc.devRef .tc main_v16_4)
    = stepBack (row3 (X (Proc.devRef .tc main_v16_0)) (X (Proc.devRef .tc main_v16_3)))
      (startOr (entry1 (X (Proc.devRef .tc main_v16_2)) (X (Proc.devRef .tc main_v16_3)))
        (row2 (X (Proc.devRef .tc main_v16_1)) (X (Proc.devRef .tc main_v16_3))) (X (Proc.devRef .tc main_v16_4))) := by
  simp only [bwdTrip, bwdBody, afterL_cons, afterL_nil]
  rw [bwd8_t]
  repeat rw [bwd7_keeps _ (by decide)]
  rw [bwd6_v25]
  rw [bwd5_v24]
  rw [bwd4_v23]
  repeat rw [bwd4_keeps _ (by decide)]
  rw [bwd3_v22]
  repeat rw [bwd3_keeps _ (by decide)]
  rw [bwd2_v21]
  repeat rw [bwd2_keeps _ (by decide)]
  rw [bwd1_v20]
  repeat rw [bwd1_keeps _ (by decide)]
  rw [bwd0_v19]
  repeat rw [bwd0_keeps _ (by decide)]
  repeat rw [bwdCond_keeps _ (by decide)]
  rfl

theorem bwd_p : bwdTrip X (Proc.devRef .tc main_v16_5)
    = put2 (X (Proc.devRef .tc main_v16_5)) (X (Proc.devRef .tc main_v16_3)) (bwdTrip X (Proc.devRef .tc main_v16_4)) := by
  rw [bwd_t]
  simp only [bwdTrip, bwdBody, afterL_cons, afterL_nil]
  rw [bwd8_p]
  rw [bwd7_v26]
  rw [bwd6_v25]
  repeat rw [bwd6_keeps _ (by decide)]
  rw [bwd5_v24]
  repeat rw [bwd5_keeps _ (by decide)]
  rw [bwd4_v23]
  repeat rw [bwd4_keeps _ (by decide)]
  rw [bwd3_v22]
  repeat rw [bwd3_keeps _ (by decide)]
  rw [bwd2_v21]
  repeat rw [bwd2_keeps _ (by decide)]
  rw [bwd1_v20]
  repeat rw [bwd1_keeps _ (by decide)]
  rw [bwd0_v19]
  repeat rw [bwd0_keeps _ (by decide)]
  repeat rw [bwdCond_keeps _ (by decide)]
  rfl

end Cert.ReferenceIdeal.Lines

end
-- ==== Proof.TwoLoops.lean ====
module

public import Idealize.ShloMosaic.Lib.StableHlo.RunLoop

/-! # A host program with two counted loops

`run_two`: a program of host lines, a counted loop, more lines, a second counted loop and more lines ends with every buffer at
the lines' fold. Each loop's condition is two lines: the bound, and the counter compared with it. -/

@[expose] public section

noncomputable section

namespace Viterbi

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀)
  (loops : Fin 2 → Prog (TpuEff nD τ sig (Elt F) (HostLoop.Sig (Pipeline.Sig Λ₀ (Fin 0) fun p => (pcs p).Adm) 2) .tc) PUnit)

/-- What the core carries beside its buffers. -/
abbrev owing (c : Dev nD) : sProp 𝕄 := iprop(∃ W, owes (c : Thread nD τ) (0 : CellTallies nD τ sig Unit) W)

/-- One loop of such a program: its regions, its body's lists of lines, and its number of trips. -/
structure Counted where
  cond : Prog (TpuEff nD τ sig (Elt F) (HostLoop.Sig (Pipeline.Sig Λ₀ (Fin 0) fun p => (pcs p).Adm) 2) .tc) (Elt F .i1)
  body : Prog (TpuEff nD τ sig (Elt F) (HostLoop.Sig (Pipeline.Sig Λ₀ (Fin 0) fun p => (pcs p).Adm) 2) .tc) PUnit
  condOps : List (HloOp τ sig (Elt F))
  bodyOps : List (List (HloOp τ sig (Elt F)))
  plain : Plain bodyOps
  body_eq : body = Pipeline.chain (bodyOps.map fun ops => (seq ops : Prog _ PUnit))
  trips : ℕ

variable {pcs}

/-- The buffers before the `k`-th condition. -/
abbrev Counted.at (l : Counted (nD := nD) (τ := τ) pcs) (W : Dev nD → Valuation τ sig (Elt F)) (k : ℕ) : Dev nD → Valuation τ sig (Elt F) :=
  atTrip l.condOps l.bodyOps W k

/-- The buffers after the loop. -/
abbrev Counted.end (l : Counted (nD := nD) (τ := τ) pcs) (W : Dev nD → Valuation τ sig (Elt F)) (c : Dev nD) : Valuation τ sig (Elt F) :=
  after l.condOps (l.at W l.trips c)

/-- The condition holds exactly while trips are left. -/
abbrev Counted.Tests (l : Counted (nD := nD) (τ := τ) pcs) (W : Dev nD → Valuation τ sig (Elt F)) : Prop :=
  LoopCond (Ix := Unit) (Name := ℕ) (U := Option PUnit) (Lvl := ℕ) pcs defs₀ Variants.none loops owing l.cond l.condOps l.bodyOps W l.trips

variable {loops}

theorem run_two [∀ e, Nonempty (Elt F e)]
    (main : Dev nD → Prog (TpuEff nD τ sig (Elt F) (HostLoop.Sig (Pipeline.Sig Λ₀ (Fin 0) fun p => (pcs p).Adm) 2) .tc) PUnit)
    (l₀ l₁ : Counted (nD := nD) (τ := τ) pcs) (h₀ : loops 0 = HostLoop.step 0 l₀.cond l₀.body) (h₁ : loops 1 = HostLoop.step 1 l₁.cond l₁.body)
    (pre mid post : List (List (HloOp τ sig (Elt F)))) (hpre : Plain pre) (hmid : Plain mid) (hpost : Plain post)
    (hmain : ∀ c, main c = Pipeline.chain ((pre.map fun ops => (seq ops : Prog _ PUnit)) ++ HostLoop.enter 0
      :: ((mid.map fun ops => (seq ops : Prog _ PUnit)) ++ HostLoop.enter 1 :: post.map fun ops => (seq ops : Prog _ PUnit))))
    (m : (ℓ : Loc nD τ sig) → Buf (Elt F) ℓ) (ρ : Dev nD → PrngReg) (W₀ W₁ V : Dev nD → Valuation τ sig (Elt F))
    (hW₀ : W₀ = fun c => afterL pre (launchContents m c)) (hW₁ : W₁ = fun c => afterL mid (l₀.end W₀ c))
    (hV : V = fun c => afterL post (l₁.end W₁ c))
    (t₀ : l₀.Tests defs₀ loops W₀) (t₁ : l₁.Tests defs₀ loops W₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = V c (Proc.devRef .tc b)) := by
  subst hW₀ hW₁ hV
  let adm : (p : Fin 0) → (pcs p).Adm := fun p => p.elim0
  let tk : Fin 0 → Ticket (Ix := Unit) (Name := ℕ) (U := Option PUnit) (Lvl := ℕ) (nD := nD) (τ := τ) pcs adm := fun j => j.elim0
  let L : GSem nD τ sig → Finset Unit := fun _ => ∅
  let lv : GSem nD τ sig → Unit → ℕ := fun _ _ => 0
  let segs : List (CSeg pcs adm defs₀ Variants.none L lv loops tk) :=
    segsOf _ _ _ _ _ _ _ _ owing pre hpre (launchContents m)
      ++ loopSeg _ _ _ _ _ _ _ _ 0 l₀.cond l₀.body h₀ l₀.condOps l₀.bodyOps l₀.plain l₀.body_eq l₀.trips _ owing t₀
      :: (segsOf _ _ _ _ _ _ _ _ owing mid hmid (l₀.end fun c => afterL pre (launchContents m c))
        ++ loopSeg _ _ _ _ _ _ _ _ 1 l₁.cond l₁.body h₁ l₁.condOps l₁.bodyOps l₁.plain l₁.body_eq l₁.trips _ owing t₁
        :: segsOf _ _ _ _ _ _ _ _ owing post hpost (l₁.end fun c => afterL mid (l₀.end (fun c => afterL pre (launchContents m c)) c)))
  have hprog : segs.map CSeg.prog = (pre.map fun ops => (seq ops : Prog _ PUnit)) ++ HostLoop.enter 0
      :: ((mid.map fun ops => (seq ops : Prog _ PUnit)) ++ HostLoop.enter 1 :: post.map fun ops => (seq ops : Prog _ PUnit)) := by
    show List.map CSeg.prog (_ ++ _ :: (_ ++ _ :: _)) = _
    rw [List.map_append, List.map_cons, List.map_append, List.map_cons, segsOf_prog, segsOf_prog, segsOf_prog]
    rfl
  refine Pipeline.θ_run_regions_loop_kit (Ix := Unit) (Name := ℕ) (U := Option PUnit) (Lvl := ℕ) (J := Fin 0) (P := Fin 0) (Val := Elt F)
    pcs adm (fun k => k.1.elim0) defs₀ Variants.none L lv loops tk m ρ main segs
    (fun c Q => by
      rw [hmain c, ← hprog]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owing c))
    (Tₙ := fun c => iprop(held (c : Thread nD τ) (ucRefs τ sig)
      (afterL post (l₁.end (fun c => afterL mid (l₀.end (fun c => afterL pre (launchContents m c)) c)) c))))
    (hch := CSeg.Chains.append (segsOf_chains _ _ _ _ _ _ _ _ owing pre hpre _)
      ⟨fun _ => .rfl, CSeg.Chains.append (segsOf_chains _ _ _ _ _ _ _ _ owing mid hmid _)
        ⟨fun _ => .rfl, segsOf_chains _ _ _ _ _ _ _ _ owing post hpost _⟩⟩)
    (hinit := by
      refine Pipeline.initEach L lv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b)
      = afterL post (l₁.end (fun c => afterL mid (l₀.end (fun c => afterL pre (launchContents m c)) c)) c) b)
    (hfin := fun c s' => by
      unfold held
      iintro ⟨Hh, HSI⟩
      ihave Hr := (pointsTo_read_all (ucRefs τ sig) (fun b => ((c : Dev nD), b)) (fun b =>
        afterL post (l₁.end (fun c => afterL mid (l₀.end (fun c => afterL pre (launchContents m c)) c)) c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Viterbi

end
-- ==== Proof.RefRun.lean ====
module

public import proofs.«01_k».proof.Defs
public import proofs.«01_k».proof.Proof.RefTrip
public import proofs.«01_k».proof.Proof.TwoLoops
public import Idealize.ShloMosaic.Lib.Scf.ExitTest
public import Idealize.ShloMosaic.Lib.Scf.Counter
public import Idealize.ShloMosaic.Lib.Quiescent

/-! # The reference's run

The buffers before each trip of its two loops, that each condition counts 512 trips, and the run: the result is the tail's
read of the buffers after the second loop, the arguments are unchanged and every semaphore is zero. -/

@[expose] public section

set_option maxRecDepth 8192

noncomputable section

namespace Cert.ReferenceIdeal.Run

open Cert.ReferenceIdeal Cert.ReferenceIdeal.Gen Cert.ReferenceIdeal.Lines
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (sub_ucRefs)

variable {F : FTy → Type} [FloatOps F]

/-- The two loops. -/
def fwdLoop : Viterbi.Counted (nD := nD) (τ := τ) (pcfgs (F := F)) where
  cond := main_while0_cond
  body := main_while0_body
  condOps := fwdCond
  bodyOps := fwdBody
  plain := .cons fwd0_sub (.cons fwd1_sub (.cons fwd2_sub (.cons fwd3_sub (.cons fwd4_sub (.cons fwd5_sub (.cons fwd6_sub
    (.cons fwd7_sub .nil)))))))
  body_eq := fwd_chain
  trips := 512

def bwdLoop : Viterbi.Counted (nD := nD) (τ := τ) (pcfgs (F := F)) where
  cond := main_while1_cond
  body := main_while1_body
  condOps := bwdCond
  bodyOps := bwdBody
  plain := .cons bwd0_sub (.cons bwd1_sub (.cons bwd2_sub (.cons bwd3_sub (.cons bwd4_sub (.cons bwd5_sub
    (.cons bwd6_sub (.cons bwd7_sub (.cons bwd8_sub .nil))))))))
  body_eq := bwd_chain
  trips := 512

variable (m : (ℓ : Loc nD τ sig) → Buf (Elt F) ℓ) (ρ : Dev nD → PrngReg) (c : Dev nD)

/-- The buffers before the `k`-th test of the forward loop, and of the backward loop; the buffers at the end. -/
def A (k : ℕ) (c : Dev nD) : Valuation τ sig (Elt F) := fwdLoop.at (fun c => after entry (launchContents m c)) k c
def B0 (c : Dev nD) : Valuation τ sig (Elt F) := after between (after fwdCond (A m 512 c))
def B (k : ℕ) (c : Dev nD) : Valuation τ sig (Elt F) := bwdLoop.at (B0 m) k c
def Z (c : Dev nD) : Valuation τ sig (Elt F) := after tail (after bwdCond (B m 512 c))

theorem A_zero : A m 0 c = after entry (launchContents m c) := rfl
theorem A_succ (k : ℕ) : A m (k + 1) c = fwdTrip (A m k c) := rfl
theorem B_zero : B m 0 c = B0 m c := rfl
theorem B_succ (k : ℕ) : B m (k + 1) c = bwdTrip (B m k c) := rfl

/-- A counter's array. -/
abbrev count (k : ℕ) : Vec F S_ .i32 := fun _ => Scf.iv 0#32 1#32 k

theorem next_count (k : ℕ) : next (F := F) (count (F := F) k) = count (F := F) (k + 1) := by
  funext i
  show Scf.iv 0#32 1#32 k + 1#32 = _
  rw [← Scf.iv_succ]

theorem A_count : ∀ k, A m k c (Proc.devRef .tc main_v4_2) = count (F := F) k
  | 0 => by rw [A_zero, entry_k]; funext i; exact (Scf.iv_zero _ _).symm
  | k + 1 => by rw [A_succ, fwd_k, A_count k, next_count]

theorem B_count : ∀ k, B m k c (Proc.devRef .tc main_v16_3) = count (F := F) k
  | 0 => by rw [B_zero, B0, between_k]; funext i; exact (Scf.iv_zero _ _).symm
  | k + 1 => by rw [B_succ, bwd_k, B_count k, next_count]

set_option backward.isDefEq.respectTransparency.types false in
theorem fwd_tests : fwdLoop.Tests (F := F) defs₀ loops (fun c => after entry (launchContents m c)) := by
  intro k hk c bd
  have hctr : fwdLoop.at (fun c => after entry (launchContents m c)) k c (Proc.devRef .tc main_v4_2) = _ := A_count m c k
  show _ ⊢ wp frame _ _ main_while0_cond _
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdLoop.at (fun c => after entry (launchContents m c)) k c) main_v4_2 HostLoop.idx0)
        (HloOp.result _ (fwdLoop.at (fun c => after entry (launchContents m c)) k c) main_while0c_c_13 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  isplitl [Hh]
  · show _ ⊢ held _ _ (after fwdCond _)
    rw [after_cons, after_cons, after_nil]
  iexact HR

set_option backward.isDefEq.respectTransparency.types false in
theorem bwd_tests : bwdLoop.Tests (F := F) defs₀ loops (B0 m) := by
  intro k hk c bd
  have hctr : bwdLoop.at (B0 m) k c (Proc.devRef .tc main_v16_3) = _ := B_count m c k
  show _ ⊢ wp frame _ _ main_while1_cond _
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdLoop.at (B0 m) k c) main_v16_3 HostLoop.idx0)
        (HloOp.result _ (bwdLoop.at (B0 m) k c) main_while1c_c_13 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  isplitl [Hh]
  · show _ ⊢ held _ _ (after bwdCond _)
    rw [after_cons, after_cons, after_nil]
  iexact HR

/-- Every buffer at the end. -/
theorem run_buffers : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Z m c (Proc.devRef .tc b)) :=
  Viterbi.run_two (pcs := pcfgs (F := F)) defs₀ (loops := loops) main fwdLoop bwdLoop rfl rfl [entry] [between] [tail]
    (.cons entry_sub .nil) (.cons between_sub .nil) (.cons tail_sub .nil) (fun c => main_chain c) m ρ
    (fun c => after entry (launchContents m c)) (B0 m) (Z m) rfl rfl rfl (fwd_tests m) (bwd_tests m)

/-! ## The arguments -/

theorem A_keeps {r : Ref sig .tc} (h0 : r ∉ entryWrites) (h : r ∉ fwdCondWrites ++ fwd0Writes ++ fwd1Writes ++ fwd2Writes ++ fwd3Writes
    ++ fwd4Writes ++ fwd5Writes ++ fwd6Writes ++ fwd7Writes) : ∀ k, A m k c (Proc.devRef .tc r) = m ((c.tc : Thread nD τ).loc r)
  | 0 => by rw [A_zero, entry_keeps _ h0]
  | k + 1 => by rw [A_succ, fwdTrip_keeps _ h, A_keeps h0 h k]

theorem B_keeps {r : Ref sig .tc} (h : r ∉ bwdCondWrites ++ bwd0Writes ++ bwd1Writes ++ bwd2Writes ++ bwd3Writes ++ bwd4Writes
    ++ bwd5Writes ++ bwd6Writes ++ bwd7Writes ++ bwd8Writes) : ∀ k, B m k c (Proc.devRef .tc r) = B0 m c (Proc.devRef .tc r)
  | 0 => by rw [B_zero]
  | k + 1 => by rw [B_succ, bwdTrip_keeps _ h, B_keeps h k]

theorem Z_arg0 : Z m c (Proc.devRef .tc main_arg0) = m ((c.tc : Thread nD τ).loc main_arg0) := by
  rw [Z, tail_keeps _ (by decide), bwdCond_keeps _ (by decide), B_keeps m c (by decide), B0, between_keeps _ (by decide),
    fwdCond_keeps _ (by decide), A_keeps m c (by decide) (by decide)]
theorem Z_arg1 : Z m c (Proc.devRef .tc main_arg1) = m ((c.tc : Thread nD τ).loc main_arg1) := by
  rw [Z, tail_keeps _ (by decide), bwdCond_keeps _ (by decide), B_keeps m c (by decide), B0, between_keeps _ (by decide),
    fwdCond_keeps _ (by decide), A_keeps m c (by decide) (by decide)]

/-- The result and the arguments at the end. -/
theorem run_values : θ_run (defs (F := F)) (onTc (τ := τ) (main (F := F))) ⟨m, fun _ => 0, ρ⟩ (fun r => ∀ c : Dev nD,
    r.2.mem ((c.tc : Thread nD τ).loc main_v18) = Z m c (Proc.devRef .tc main_v18)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run _ _ _).mono (fun r h c => ⟨h c main_v18 rfl, (h c main_arg0 rfl).trans (Z_arg0 m c), (h c main_arg1 rfl).trans (Z_arg1 m c)⟩)
    (run_buffers m ρ)

theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems rfl _⟩) (run_values m ρ)

end Cert.ReferenceIdeal.Run

end
-- ==== Proof.First.lean ====
module

public import proofs.«01_k».proof.Proof.Steps
public import Idealize.ShloMosaic.PureOps.Ideal
public import Idealize.ShloMosaic.PureOps.Ideal.Laws
public import Idealize.ShloMosaic.PureOps.Reduce

/-! # The largest of finitely many extended reals, and the first place it stands at

`IsMax s M` and `IsFirst s p` say what a maximum and a first arg-max are. A fold of `max`, a balanced tree of `max` and
a fold over pairs of a value and its place are each read as one of them. -/

@[expose] public section

noncomputable section

namespace Viterbi

open Idealize.ShloMosaic

/-- `M` is the largest value of `s`. -/
def IsMax {n : ℕ} (s : Fin n → EReal) (M : EReal) : Prop := (∀ q, s q ≤ M) ∧ ∃ p, s p = M

/-- `p` is the first place at which `s` is largest. -/
def IsFirst {n : ℕ} (s : Fin n → EReal) (p : Fin n) : Prop := (∀ q, s q ≤ s p) ∧ ∀ q, s q = s p → p ≤ q

theorem IsMax.unique {n : ℕ} {s : Fin n → EReal} {M M' : EReal} (h : IsMax s M) (h' : IsMax s M') : M = M' := by
  obtain ⟨p, rfl⟩ := h.2
  obtain ⟨p', rfl⟩ := h'.2
  exact le_antisymm (h'.1 p) (h.1 p')

theorem IsFirst.unique {n : ℕ} {s : Fin n → EReal} {p p' : Fin n} (h : IsFirst s p) (h' : IsFirst s p') : p = p' := by
  have e : s p = s p' := le_antisymm (h'.1 p) (h.1 p')
  exact le_antisymm (h.2 p' e.symm) (h'.2 p e)

/-! ## A fold of `max` -/

theorem fold_max_isMax {n : ℕ} (hn : 0 < n) (s : Fin n → EReal) : IsMax s ((Finset.univ : Finset (Fin n)).fold max ⊥ s) := by
  constructor
  · intro q
    exact (Finset.le_fold_max (s q)).mpr (.inr ⟨q, Finset.mem_univ q, le_rfl⟩)
  · rcases (Finset.le_fold_max (s := (Finset.univ : Finset (Fin n))) (f := s) (b := ⊥) _).mp le_rfl with h | ⟨p, _, h⟩
    · have e := le_bot_iff.mp h
      refine ⟨⟨0, hn⟩, ?_⟩
      rw [e]
      exact le_bot_iff.mp (e ▸ (Finset.le_fold_max (s ⟨0, hn⟩)).mpr (.inr ⟨_, Finset.mem_univ _, le_rfl⟩))
    · exact ⟨p, le_antisymm ((Finset.le_fold_max (s p)).mpr (.inr ⟨p, Finset.mem_univ p, le_rfl⟩)) h⟩

/-! ## Balanced trees -/

/-- Every value of a tree's leaves is at most the tree of `max`, which is one of them. -/
theorem tree_max {s : Shape} {φ : FTy} (g : ℕ → FVec Ideal s φ) (i : s.Idx) : ∀ k d,
    (∀ e < 2 ^ k, (g (d + e) i : EReal) ≤ treeVal maximumf g k d i) ∧ ∃ e < 2 ^ k, (g (d + e) i : EReal) = treeVal maximumf g k d i := by
  intro k
  induction k with
  | zero =>
    intro d
    refine ⟨fun e he => ?_, 0, by norm_num, rfl⟩
    obtain rfl : e = 0 := by simpa using he
    exact le_rfl
  | succ k ih =>
    intro d
    obtain ⟨l1, e1, h1, m1⟩ := ih d
    obtain ⟨l2, e2, h2, m2⟩ := ih (d + 2 ^ k)
    have hval : (treeVal maximumf g (k + 1) d i : EReal) = max (treeVal maximumf g k d i) (treeVal maximumf g k (d + 2 ^ k) i) := rfl
    rw [hval]
    constructor
    · intro e he
      rw [Nat.pow_succ] at he
      rcases lt_or_ge e (2 ^ k) with h | h
      · exact (l1 e h).trans (le_max_left _ _)
      · have := l2 (e - 2 ^ k) (by omega)
        rw [show d + 2 ^ k + (e - 2 ^ k) = d + e by omega] at this
        exact this.trans (le_max_right _ _)
    · rw [Nat.pow_succ]
      rcases max_choice (treeVal maximumf g k d i : EReal) (treeVal maximumf g k (d + 2 ^ k) i) with h | h
      · exact ⟨e1, by omega, by rw [h, m1]⟩
      · refine ⟨2 ^ k + e2, by omega, ?_⟩
        rw [h, ← m2, Nat.add_assoc]

/-- The same for `min`. -/
theorem tree_min {s : Shape} {φ : FTy} (g : ℕ → FVec Ideal s φ) (i : s.Idx) : ∀ k d,
    (∀ e < 2 ^ k, (treeVal minimumf g k d i : EReal) ≤ g (d + e) i) ∧ ∃ e < 2 ^ k, (g (d + e) i : EReal) = treeVal minimumf g k d i := by
  intro k
  induction k with
  | zero =>
    intro d
    refine ⟨fun e he => ?_, 0, by norm_num, rfl⟩
    obtain rfl : e = 0 := by simpa using he
    exact le_rfl
  | succ k ih =>
    intro d
    obtain ⟨l1, e1, h1, m1⟩ := ih d
    obtain ⟨l2, e2, h2, m2⟩ := ih (d + 2 ^ k)
    have hval : (treeVal minimumf g (k + 1) d i : EReal) = min (treeVal minimumf g k d i) (treeVal minimumf g k (d + 2 ^ k) i) := rfl
    rw [hval]
    constructor
    · intro e he
      rw [Nat.pow_succ] at he
      rcases lt_or_ge e (2 ^ k) with h | h
      · exact (min_le_left _ _).trans (l1 e h)
      · have := l2 (e - 2 ^ k) (by omega)
        rw [show d + 2 ^ k + (e - 2 ^ k) = d + e by omega] at this
        exact (min_le_right _ _).trans this
    · rw [Nat.pow_succ]
      rcases min_choice (treeVal minimumf g k d i : EReal) (treeVal minimumf g k (d + 2 ^ k) i) with h | h
      · exact ⟨e1, by omega, by rw [h, m1]⟩
      · refine ⟨2 ^ k + e2, by omega, ?_⟩
        rw [h, ← m2, Nat.add_assoc]

/-! ## A fold over pairs -/

/-- The pair `r` is at least as good as `q`: a larger value, or the same value no later. -/
def AtLeast (r q : EReal × BitVec 32) : Prop := q.1 < r.1 ∨ (q.1 = r.1 ∧ r.2.toInt ≤ q.2.toInt)

theorem AtLeast.refl (r : EReal × BitVec 32) : AtLeast r r := .inr ⟨rfl, le_rfl⟩

theorem AtLeast.trans {a b c : EReal × BitVec 32} (h : AtLeast a b) (h' : AtLeast b c) : AtLeast a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- A fold by a choice of the better of two pairs ends with the best. -/
theorem foldl_best (f : EReal × BitVec 32 → EReal × BitVec 32 → EReal × BitVec 32)
    (hf : ∀ a b, (f a b = a ∨ f a b = b) ∧ AtLeast (f a b) a ∧ AtLeast (f a b) b) :
    ∀ (L : List (EReal × BitVec 32)) (acc : EReal × BitVec 32),
      (L.foldl f acc = acc ∨ L.foldl f acc ∈ L) ∧ AtLeast (L.foldl f acc) acc ∧ ∀ q ∈ L, AtLeast (L.foldl f acc) q
  | [], acc => ⟨.inl rfl, .refl _, fun _ h => nomatch h⟩
  | x :: L, acc => by
    obtain ⟨hmem, hacc, hall⟩ := foldl_best f hf L (f acc x)
    obtain ⟨hor, ha, hx⟩ := hf acc x
    rw [List.foldl_cons]
    refine ⟨?_, hacc.trans ha, fun q hq => ?_⟩
    · rcases hmem with h | h
      · rcases hor with h' | h'
        · exact .inl (h.trans h')
        · exact .inr (by rw [h, h']; exact List.mem_cons_self)
      · exact .inr (List.mem_cons_of_mem _ h)
    · rcases List.mem_cons.mp hq with rfl | hq
      · exact hacc.trans hx
      · exact hall q hq

/-- A small number as a signed word. -/
theorem toInt_small (p : ℕ) (hp : p < 2 ^ 31) : (BitVec.ofNat 32 p).toInt = p := by
  rw [BitVec.toInt_eq_toNat_of_lt, BitVec.toNat_ofNat, Nat.mod_eq_of_lt (by omega)]
  rw [BitVec.toNat_ofNat, Nat.mod_eq_of_lt (by omega)]; omega

/-- The host's arg-max over the `n` places `place` of an array, at the ideal values. -/
theorem argReduce_isFirst {s t u : Shape} {axes : List (Fin s.rank)} {n : ℕ} (hn : 0 < n) (hn' : n < 2 ^ 31)
    (f : Ideal .f32 × BitVec 32 → Ideal .f32 × BitVec 32 → Ideal .f32 × BitVec 32)
    (hf : ∀ a b, (f a b = a ∨ f a b = b) ∧ AtLeast (f a b) a ∧ AtLeast (f a b) b)
    (x : FVec Ideal s .f32) (y : IVec s 32) (ix : u.Idx → Ideal .f32) (iy : u.Idx → BitVec 32) (h : s.ReducesTo axes t) (hu : 0 < u.numel)
    (hix : ix (Shape.Idx.first hu) = (⊥ : EReal)) (hiy : iy (Shape.Idx.first hu) = 0#32) (j : t.Idx) (place : Fin n → s.Idx)
    (hplace : ∀ i, h.drop i = j ↔ ∃ p, place p = i) (hy : ∀ p, y (place p) = BitVec.ofNat 32 p.val) :
    ∃ p : Fin n, (Host.argReduce f x y ix iy h hu j).2 = BitVec.ofNat 32 p.val ∧ IsFirst (fun p => (x (place p) : EReal)) p := by
  rw [show Host.argReduce f x y ix iy h hu = Host.reduce2 f x y ix iy h hu from Ideal.argReduce_eq_reduce2 f x y ix iy h hu,
    Host.reduce2_eq_foldl_fiber, hix, hiy]
  have hmem : ∀ q : EReal × BitVec 32, q ∈ Host.argReduceFiber x y h j ↔ ∃ p : Fin n, q = (x (place p), BitVec.ofNat 32 p.val) := by
    intro q
    unfold Host.argReduceFiber
    simp only [List.mem_map, List.mem_filter, List.mem_finRange, true_and, decide_eq_true_eq]
    constructor
    · rintro ⟨m, hm, rfl⟩
      obtain ⟨p, hp⟩ := (hplace _).mp hm
      exact ⟨p, by rw [← hp, hy]⟩
    · rintro ⟨p, rfl⟩
      refine ⟨s.rowMajor (place p), ?_, ?_⟩
      · rw [Equiv.symm_apply_apply]; exact (hplace _).mpr ⟨p, rfl⟩
      · rw [Equiv.symm_apply_apply, hy]
  obtain ⟨hor, hacc, hall⟩ := foldl_best f hf (Host.argReduceFiber x y h j) ((⊥ : EReal), 0#32)
  generalize List.foldl f ((⊥ : EReal), 0#32) (Host.argReduceFiber x y h j) = r at hor hacc hall
  have hp : ∃ p : Fin n, r = (x (place p), BitVec.ofNat 32 p.val) := by
    rcases hor with h0 | h0
    · have h1 := hall _ ((hmem _).mpr ⟨⟨0, hn⟩, rfl⟩)
      rw [h0] at h1
      rcases h1 with h1 | h1
      · exact absurd h1 not_lt_bot
      · exact ⟨⟨0, hn⟩, by rw [h0]; exact Prod.ext h1.1.symm rfl⟩
    · exact (hmem _).mp h0
  obtain ⟨p, rfl⟩ := hp
  refine ⟨p, rfl, fun q => ?_, fun q hq => ?_⟩
  · rcases hall _ ((hmem _).mpr ⟨q, rfl⟩) with h1 | h1
    · exact h1.le
    · exact h1.1.le
  · rcases hall _ ((hmem _).mpr ⟨q, rfl⟩) with h1 | h1
    · exact absurd hq (ne_of_lt h1)
    · have := h1.2
      simp only at this
      rw [toInt_small p.val (by omega), toInt_small q.val (by omega)] at this
      exact Fin.mk_le_mk.mpr (by exact_mod_cast this)

end Viterbi

end
-- ==== Proof.Take.lean ====
module

public import proofs.«01_k».proof.Proof.First
public import Idealize.ShloMosaic.Lib.ValueIdx
public import Idealize.ShloMosaic.Lib.ValueLayout
public import Idealize.ShloMosaic.PureOps.ShapeOps
public import Idealize.ShloMosaic.PureOps.Reduce

/-! # Taking one entry of a row by its index

Both programs take entries along the rows of a table: an index below zero is counted from the end, an index out of range
gives a filler. For an index in range all of this is the entry itself. -/

@[expose] public section

noncomputable section

namespace Viterbi

open Idealize.ShloMosaic
open Idealize.ShloMosaic.ValueIdx

variable {α : Type}

/-- A gather whose row is the result's row and whose column is an index vector of one word. -/
theorem gather_row_apply {N C B : ℕ} (hC : 0 < C) (d : GatherDims ⟨2, ![N, C]⟩ ⟨3, ![N, B, 1]⟩ ⟨2, ![N, B]⟩)
    (hoff : d.offsetDims = []) (hcol : d.collapsedSliceDims = [1]) (hob : d.operandBatchingDims = [0]) (hsb : d.startIndicesBatchingDims = [0])
    (hmap : d.startIndexMap = [1]) (hiv : d.indexVectorDim = 2) (hsz : d.sliceSizes = ![1, 1])
    (x : (⟨2, ![N, C]⟩ : Shape).Idx → α) (idx : IVec ⟨3, ![N, B, 1]⟩ 32) (n : Fin N) (b : Fin B) :
    Host.gather d x idx (ix2 n b) = x (ix2 n ⟨min (idx (ix3 n b (0 : Fin 1))).toInt.toNat (C - 1), by omega⟩) := by
  obtain ⟨off, col, ob, sb, map, iv, sz, wf⟩ := d
  subst hoff hcol hob hsb hmap hiv hsz
  generalize hd : (GatherDims.mk [] [1] [0] [0] [1] 2 ![1, 1] wf : GatherDims ⟨2, ![N, C]⟩ ⟨3, ![N, B, 1]⟩ ⟨2, ![N, B]⟩) = d
  refine congrArg x (funext fun a => Fin.ext ?_)
  show d.start (ix2 n b) idx a + d.batchCoord (ix2 n b) a + d.offCoord (ix2 n b) a = _
  have hk : a ∉ d.sKept := fun h => by
    have h' := (GatherDims.mem_sKept d a).mp h
    subst hd
    match a, h' with
    | ⟨0, _⟩, h' => exact h'.2 (List.mem_singleton.mpr rfl)
    | ⟨1, _⟩, h' => exact h'.1 (List.mem_singleton.mpr rfl)
  rw [GatherDims.offCoord_eq_zero _ _ _ hk, Nat.add_zero]
  match a with
  | ⟨0, h0⟩ =>
    have hm : (⟨0, h0⟩ : Fin 2) ∈ d.operandBatchingDims := by subst hd; exact List.mem_singleton.mpr rfl
    rw [GatherDims.start_batching _ _ _ _ hm, Nat.zero_add]
    unfold GatherDims.batchCoord
    rw [dif_pos hm]
    subst hd
    rfl
  | ⟨1, h1⟩ =>
    have hm : (⟨1, h1⟩ : Fin 2) ∈ d.startIndexMap := by subst hd; exact List.mem_singleton.mpr rfl
    rw [GatherDims.batchCoord_eq_zero _ _ _ (fun h => d.sim_disjoint _ hm h), Nat.add_zero]
    unfold GatherDims.start
    rw [dif_pos hm]
    subst hd
    refine congrArg (fun i => min (idx i).toInt.toNat (C - 1)) (funext fun e => Fin.ext ?_)
    match e with
    | ⟨0, _⟩ => rfl
    | ⟨1, _⟩ => rfl
    | ⟨2, _⟩ => rfl

/-- Whether a small number is between `0` and `127`, as the two comparisons and their conjunction. -/
theorem in_range (p : ℕ) (hp : p < 128) :
    IntOp.andi (IntOp.cmpi .sge (BitVec.ofNat 32 p) 0#32) (IntOp.cmpi .sle (BitVec.ofNat 32 p) 127#32) = 1#1 := by
  have key : ∀ q : Fin 128, IntOp.andi (IntOp.cmpi .sge (BitVec.ofNat 32 q.val) 0#32) (IntOp.cmpi .sle (BitVec.ofNat 32 q.val) 127#32) = 1#1 := by
    decide
  exact key ⟨p, hp⟩

/-- A small number is not negative. -/
theorem not_negative (p : ℕ) (hp : p < 128) : IntOp.cmpi .slt (BitVec.ofNat 32 p) 0#32 = 0#1 := by
  have key : ∀ q : Fin 128, IntOp.cmpi .slt (BitVec.ofNat 32 q.val) 0#32 = 0#1 := by
    decide
  exact key ⟨p, hp⟩

/-- A small number as a column. -/
theorem column_of (p : Fin 128) : min (BitVec.ofNat 32 p.val).toInt.toNat (128 - 1) = p.val := by
  rw [toInt_small _ (by omega), Int.toNat_natCast]
  omega

/-- The conjunction of a row of one bit. -/
theorem fold_one (init : BitVec 1) (hinit : init = 1#1) (f : Fin 1 → BitVec 1) (hf : f 0 = 1#1) :
    (Finset.univ : Finset (Fin 1)).fold IntOp.andi init f = 1#1 := by
  rw [Finset.univ_unique, Finset.fold_singleton, show f default = 1#1 from hf, hinit]
  rfl

end Viterbi

end
-- ==== Proof.RefRead.lean ====
module

public import proofs.«01_k».proof.Proof.RefTrip
public import proofs.«01_k».proof.Proof.First
public import proofs.«01_k».proof.Proof.Take
public import Idealize.ShloMosaic.Lib.ValueIdx
public import Idealize.ShloMosaic.Lib.ValueLayout
public import Idealize.ShloMosaic.Lib.ValueLayoutCasts
public import Idealize.ShloMosaic.Lib.Pointwise.ShapeOpsCore

/-! # The reference's values, element by element

The functions of `RefTrip.lean` read at one sequence and one tag. -/

@[expose] public section

noncomputable section

namespace Cert.ReferenceIdeal.Read

open Cert.ReferenceIdeal Cert.ReferenceIdeal.Gen Cert.ReferenceIdeal.Lines
open Idealize.ShloMosaic hiding ix0 ix1 ix2 ix3 ix4
open Idealize.ShloMosaic.ValueIdx
open Viterbi (IsMax IsFirst AtLeast)

section Layout
variable {F : FTy → Type} [FloatOps F]

/-- A counter as a word. -/
abbrev word (k : ℕ) : Vec F S_ .i32 := fun _ => BitVec.ofNat 32 k

theorem first_word (k : ℕ) (hk : k < 512) : ((word (F := F) k) (Shape.Idx.first h_S_)).toInt = k := Viterbi.toInt_small k (by omega)

theorem start3 (k : ℕ) (hk : k < 512) (a : Fin 3) : from3 (word (F := F) k) a = ((if a = 0 then k else 0 : ℕ) : ℤ) := by
  match a with
  | ⟨0, _⟩ => exact first_word (F := F) k hk
  | ⟨1, _⟩ => rfl
  | ⟨2, _⟩ => rfl

theorem start2 (k : ℕ) (hk : k < 512) (a : Fin 2) : from2 (word (F := F) k) a = ((if a = 0 then k else 0 : ℕ) : ℤ) := by
  match a with
  | ⟨0, _⟩ => exact first_word (F := F) k hk
  | ⟨1, _⟩ => rfl

/-- Where those slices start. -/
theorem clamp3 (k : Fin 512) (h : S1x16x128.rank = S512x16x128.rank) (a : Fin 3) :
    Host.clampedStart S512x16x128 S1x16x128 h (from3 (word (F := F) k.val)) a = if a = 0 then k.val else 0 := by
  refine Host.clampedStart_of_le h _ a _ (start3 k.val k.isLt a) ?_
  match a with
  | ⟨0, _⟩ => show k.val + 1 ≤ 512; omega
  | ⟨1, _⟩ => show 0 + 16 ≤ 16; omega
  | ⟨2, _⟩ => show 0 + 128 ≤ 128; omega

theorem clamp2 (k : Fin 512) (h : S1x16.rank = S512x16.rank) (a : Fin 2) :
    Host.clampedStart S512x16 S1x16 h (from2 (word (F := F) k.val)) a = if a = 0 then k.val else 0 := by
  refine Host.clampedStart_of_le h _ a _ (start2 k.val k.isLt a) ?_
  match a with
  | ⟨0, _⟩ => show k.val + 1 ≤ 512; omega
  | ⟨1, _⟩ => show 0 + 16 ≤ 16; omega

theorem row3_apply {e : EltTy} (x : Vec F S512x16x128 e) (k : Fin 512) (n : Fin 16) (c : Fin 128) :
    row3 x (word k.val) (ix2 n c) = x (ix3 k n c) := by
  unfold row3
  rw [shapeCast_1ab_ab_apply, Host.dynamicSlice_apply]
  refine congrArg x (funext fun a => Fin.ext ?_)
  show Host.clampedStart S512x16x128 S1x16x128 _ (from3 (word (F := F) k.val)) a + _ = _
  rw [clamp3]
  match a with
  | ⟨0, _⟩ => rfl
  | ⟨1, _⟩ => exact Nat.zero_add _
  | ⟨2, _⟩ => exact Nat.zero_add _

theorem row2_apply {e : EltTy} (x : Vec F S512x16 e) (k : Fin 512) (n : Fin 16) : row2 x (word k.val) (ix1 n) = x (ix2 k n) := by
  unfold row2
  rw [shapeCast_1a_a_apply, Host.dynamicSlice_apply]
  refine congrArg x (funext fun a => Fin.ext ?_)
  show Host.clampedStart S512x16 S1x16 _ (from2 (word (F := F) k.val)) a + _ = _
  rw [clamp2]
  match a with
  | ⟨0, _⟩ => rfl
  | ⟨1, _⟩ => exact Nat.zero_add _

theorem entry1_apply {e : EltTy} (x : Vec F S512 e) (k : Fin 512) (i : S_.Idx) : entry1 x (word k.val) i = x (ix1 k) := by
  unfold entry1
  rw [shapeCast_apply _ _ i (ix1 (0 : Fin 1)) (by
    rw [Shape.rowMajor_val_one]
    have h := (S_.rowMajor i).isLt
    have : S_.numel = 1 := by decide
    show 0 = _
    omega), Host.dynamicSlice_apply]
  refine congrArg x (funext fun a => Fin.ext ?_)
  match a with
  | ⟨0, _⟩ =>
    show Host.clampedStart S512 S1 _ (fun a => ((![word k.val] : Fin 1 → Vec F S_ .i32) a (Shape.Idx.first h_S_)).toInt) 0 + 0 = k.val
    rw [Host.clampedStart_of_le (s := S512) (t := S1) rfl _ 0 k.val (first_word (F := F) k.val k.isLt) (by show k.val + 1 ≤ 512; omega)]
    rfl

theorem put3_apply (x : Vec F S512x16x128 .i32) (k : Fin 512) (r : Vec F S16x128 .i32) (t : Fin 512) (n : Fin 16) (c : Fin 128) :
    put3 x (word k.val) r (ix3 t n c) = if t = k then r (ix2 n c) else x (ix3 t n c) := by
  have h0 : Host.clampedStart S512x16x128 S1x16x128 rfl (from3 (word (F := F) k.val)) 0 = k.val := clamp3 k rfl 0
  have h1 : Host.clampedStart S512x16x128 S1x16x128 rfl (from3 (word (F := F) k.val)) 1 = 0 := clamp3 k rfl 1
  have h2 : Host.clampedStart S512x16x128 S1x16x128 rfl (from3 (word (F := F) k.val)) 2 = 0 := clamp3 k rfl 2
  unfold put3
  rw [Host.dynamicUpdateSlice_apply]
  by_cases ht : t = k
  · rw [if_pos ht, dif_pos (fun a => by
      match a with
      | ⟨0, _⟩ => exact ⟨h0.trans_le (Fin.val_le_of_le ht.ge), by show t.val < Host.clampedStart _ _ _ _ 0 + 1; rw [h0, ht]; omega⟩
      | ⟨1, _⟩ => exact ⟨h1.trans_le (Nat.zero_le _), by show n.val < Host.clampedStart _ _ _ _ 1 + 16; rw [h1]; omega⟩
      | ⟨2, _⟩ => exact ⟨h2.trans_le (Nat.zero_le _), by show c.val < Host.clampedStart _ _ _ _ 2 + 128; rw [h2]; omega⟩), Pointwise.broadcastInDim_apply]
    refine congrArg r (funext fun a => Fin.ext ?_)
    match a with
    | ⟨0, _⟩ => show n.val - Host.clampedStart _ _ _ _ 1 = n.val; rw [h1]; rfl
    | ⟨1, _⟩ => show c.val - Host.clampedStart _ _ _ _ 2 = c.val; rw [h2]; rfl
  · rw [if_neg ht, dif_neg (fun h => by
      obtain ⟨ha, hb⟩ := h 0
      rw [h0] at ha hb
      exact ht (Fin.ext (Nat.le_antisymm (Nat.lt_succ_iff.mp hb) ha)))]

theorem put2_apply (x : Vec F S512x16 .i32) (k : Fin 512) (r : Vec F S16 .i32) (t : Fin 512) (n : Fin 16) :
    put2 x (word k.val) r (ix2 t n) = if t = k then r (ix1 n) else x (ix2 t n) := by
  have h0 : Host.clampedStart S512x16 S1x16 rfl (from2 (word (F := F) k.val)) 0 = k.val := clamp2 k rfl 0
  have h1 : Host.clampedStart S512x16 S1x16 rfl (from2 (word (F := F) k.val)) 1 = 0 := clamp2 k rfl 1
  unfold put2
  rw [Host.dynamicUpdateSlice_apply]
  by_cases ht : t = k
  · rw [if_pos ht, dif_pos (fun a => by
      match a with
      | ⟨0, _⟩ => exact ⟨h0.trans_le (Fin.val_le_of_le ht.ge), by show t.val < Host.clampedStart _ _ _ _ 0 + 1; rw [h0, ht]; omega⟩
      | ⟨1, _⟩ => exact ⟨h1.trans_le (Nat.zero_le _), by show n.val < Host.clampedStart _ _ _ _ 1 + 16; rw [h1]; omega⟩), Pointwise.broadcastInDim_apply]
    refine congrArg r (funext fun a => Fin.ext ?_)
    match a with
    | ⟨0, _⟩ => show n.val - Host.clampedStart _ _ _ _ 1 = n.val; rw [h1]; rfl
  · rw [if_neg ht, dif_neg (fun h => by
      obtain ⟨ha, hb⟩ := h 0
      rw [h0] at ha hb
      exact ht (Fin.ext (Nat.le_antisymm (Nat.lt_succ_iff.mp hb) ha)))]

theorem next_word (k : ℕ) : next (word (F := F) k) = word (k + 1) := funext fun _ => by
  show BitVec.ofNat 32 k + BitVec.ofNat 32 1 = BitVec.ofNat 32 (k + 1)
  rw [BitVec.ofNat_add]

/-- The mask is set at the first backward trip only. -/
theorem lastMask_apply (k : Fin 512) : lastMask (F := F) (ix1 k) = if k.val = 0 then 1#1 else 0#1 := by
  show BitVec.ofBool ((511#32 + 4294967295#32 * BitVec.ofNat 32 k.val) == 511#32) = _
  revert k
  decide +kernel

theorem startOr_apply (l : Vec F S_ .i1) (a b : Vec F S16 .i32) (b0 : BitVec 1) (hl : ∀ i, l i = b0) (n : Fin 16) :
    startOr l a b (ix1 n) = if b0 = 1#1 then a (ix1 n) else b (ix1 n) := by
  show Scalar.select (l _) (a (ix1 n)) (b (ix1 n)) = _
  rw [hl]
  rfl

/-- A step back reads the table at the tag. -/
theorem stepBack_apply (x : Vec F S16x128 .i32) (t : Vec F S16 .i32) (n : Fin 16) (p : Fin 128) (ht : t (ix1 n) = BitVec.ofNat 32 p.val) :
    stepBack x t (ix1 n) = x (ix2 n p) := by
  have hi : broadcastInDim S16x1 ![0] bcast_S16_S16x1_0 t (ix2 n (0 : Fin 1)) = BitVec.ofNat 32 p.val := by
    rw [Pointwise.broadcastInDim_apply, ← ht]
    exact congrArg t (funext fun a => Fin.ext (by match a with | ⟨0, _⟩ => rfl))
  have hf : fixedIdx (F := F) (broadcastInDim S16x1 ![0] bcast_S16_S16x1_0 t) (ix3 n (0 : Fin 1) (0 : Fin 1)) = BitVec.ofNat 32 p.val := by
    unfold fixedIdx
    rw [shapeCast_apply _ _ (ix3 n (0 : Fin 1) (0 : Fin 1)) (ix2 n (0 : Fin 1)) (by
      rw [Shape.rowMajor_val_three, Shape.rowMajor_val_two]; show n.val * 1 + 0 = (n.val * 1 + 0) * 1 + 0; omega)]
    show Scalar.select (IntOp.cmpi .slt (broadcastInDim S16x1 ![0] bcast_S16_S16x1_0 t (ix2 n (0 : Fin 1))) 0#32)
      (IntOp.addi (broadcastInDim S16x1 ![0] bcast_S16_S16x1_0 t (ix2 n (0 : Fin 1))) 128#32)
      (broadcastInDim S16x1 ![0] bcast_S16_S16x1_0 t (ix2 n (0 : Fin 1))) = _
    rw [hi, Viterbi.not_negative p.val p.isLt]
    exact select_zero _ _
  unfold stepBack
  rw [shapeCast_apply _ _ (ix1 n) (ix2 n (0 : Fin 1)) (by
    rw [Shape.rowMajor_val_two, Shape.rowMajor_val_one]; show n.val * 1 + 0 = n.val; omega)]
  generalize broadcastInDim S16x1 ![0] bcast_S16_S16x1_0 t = i at hf
  unfold along
  show Scalar.select (inRange (F := F) (fixedIdx (F := F) i) (ix2 n (0 : Fin 1))) (Host.gather _ x (fixedIdx (F := F) i) (ix2 n (0 : Fin 1))) _ = _
  generalize fixedIdx (F := F) i = w at hf
  have hr : inRange (F := F) w (ix2 n (0 : Fin 1)) = 1#1 := by
    unfold inRange
    rw [Host.reduce_eq_fold_single IntOp.andi _ _ reducesTo_S16x1x1_S16x1_d2 (by decide) h_S_]
    refine Viterbi.fold_one _ rfl _ ?_
    show IntOp.andi (IntOp.cmpi .sge (w _) 0#32) (IntOp.cmpi .sle (w _) 127#32) = 1#1
    rw [show (Shape.Reduces.lift (a := (2 : Fin 3)) (s := S16x1x1) (t := S16x1) (by decide) (ix2 n (0 : Fin 1)) (0 : Fin 1)) = ix3 n (0 : Fin 1) (0 : Fin 1) from
      funext fun a => Fin.ext (by match a with | ⟨0, _⟩ => rfl | ⟨1, _⟩ => rfl | ⟨2, _⟩ => rfl), hf]
    exact Viterbi.in_range p.val p.isLt
  rw [hr]
  refine (select_one _ _).trans ?_
  rw [Viterbi.gather_row_apply (N := 16) (C := 128) (B := 1) (by norm_num) gather_S16x128_S16x1x1_S16x1_n_1_0_0_1_2_11 rfl rfl rfl rfl rfl rfl rfl]
  refine congrArg x (congrArg (ix2 n) (Fin.ext ?_))
  show min (w (ix3 n (0 : Fin 1) (0 : Fin 1))).toInt.toNat (128 - 1) = p.val
  rw [hf]
  exact Viterbi.column_of p

end Layout

/-! ## At the ideal values -/

theorem scores_apply (T : Vec Ideal S128x128 .f32) (f : Vec Ideal S16x128 .f32) (n : Fin 16) (c p : Fin 128) :
    (scores T f (ix3 n c p) : EReal) = f (ix2 n p) + T (ix2 c p) := by
  show (_ : EReal) + _ = _
  congr 1
  · refine congrArg f (funext fun a => Fin.ext ?_)
    match a with | ⟨0, _⟩ => rfl | ⟨1, _⟩ => rfl
  · refine congrArg T (funext fun a => Fin.ext ?_)
    match a with | ⟨0, _⟩ => rfl | ⟨1, _⟩ => rfl

theorem neg_inf : (constant (F := Ideal) S_ .f32 0xFF800000#32 (Shape.Idx.first h_S_) : EReal) = ⊥ := by
  show Ideal.ofBits .f32 0xFF800000#32 = _
  simp [Ideal.ofBits, Ideal.ieee]

theorem best_isMax (s : Vec Ideal S16x128x128 .f32) (n : Fin 16) (c : Fin 128) :
    IsMax (fun p : Fin 128 => (s (ix3 n c p) : EReal)) (best s (ix2 n c)) := by
  have hR : S16x128x128.Reduces [2] S16x128 := by decide
  have e : best s (ix2 n c) = (Finset.univ : Finset (Fin 128)).fold (max : EReal → EReal → EReal) ⊥ (s ∘ hR.lift (ix2 n c)) := by
    unfold best
    refine (Host.reduce_eq_fold_single (max : EReal → EReal → EReal) s _ reducesTo_S16x128x128_S16x128_d2 hR h_S_ (ix2 n c)).trans ?_
    rw [neg_inf]
    rfl
  refine Eq.mpr (congrArg (IsMax _) e) ?_
  rw [show (s ∘ hR.lift (ix2 n c)) = fun p : Fin 128 => (s (ix3 n c p) : EReal) from funext fun p => congrArg s (funext fun a => Fin.ext (by
    match a with | ⟨0, _⟩ => rfl | ⟨1, _⟩ => rfl | ⟨2, _⟩ => rfl))]
  exact Viterbi.fold_max_isMax (by norm_num) _

/-- The arg-max's body keeps the better pair. -/
theorem argmax_best (a b : Ideal .f32 × BitVec 32) :
    (reducer_argmax_f32_i32 a b = a ∨ reducer_argmax_f32_i32 a b = b) ∧ AtLeast (reducer_argmax_f32_i32 a b) a ∧ AtLeast (reducer_argmax_f32_i32 a b) b := by
  obtain ⟨x, i⟩ := a
  obtain ⟨y, j⟩ := b
  have hgt : FloatOps.cmpf (F := Ideal) (φ := .f32) .ogt x y = if (y : EReal) < x then 1#1 else 0#1 := by
    show BitVec.ofBool (decide ((y : EReal) < x)) = _
    by_cases h : (y : EReal) < x <;> simp [h]
  have hne : FloatOps.cmpf (F := Ideal) (φ := .f32) .une x x = 0#1 := by
    show BitVec.ofBool (decide ((x : EReal) ≠ x)) = _
    simp
  have heq : FloatOps.cmpf (F := Ideal) (φ := .f32) .oeq x y = if (x : EReal) = y then 1#1 else 0#1 := by
    show BitVec.ofBool (decide ((x : EReal) = y)) = _
    by_cases h : (x : EReal) = y <;> simp [h]
  have hlt : IntOp.cmpi .slt i j = if i.toInt < j.toInt then 1#1 else 0#1 := by
    show BitVec.ofBool (i.slt j) = _
    by_cases h : i.toInt < j.toInt
    · rw [if_pos h, BitVec.slt_iff_toInt_lt.mpr h]; rfl
    · rw [if_neg h, Bool.eq_false_iff.mpr fun h' => h (BitVec.slt_iff_toInt_lt.mp h')]; rfl
  have hval : reducer_argmax_f32_i32 (F := Ideal) (x, i) (y, j)
      = (if (y : EReal) < x then x else y, if (y : EReal) < x ∨ ((x : EReal) = y ∧ i.toInt < j.toInt) then i else j) := by
    unfold reducer_argmax_f32_i32
    simp only [hgt, hne, heq, hlt]
    by_cases h1 : (y : EReal) < x
    · simp only [if_pos h1, if_pos (Or.inl h1 : (y : EReal) < x ∨ _)]
      split_ifs <;> rfl
    · by_cases e : (x : EReal) = y ∧ i.toInt < j.toInt
      · simp only [if_neg h1, if_pos (Or.inr e : (y : EReal) < x ∨ _), if_pos e.1, if_pos e.2]
        rfl
      · simp only [if_neg h1, if_neg (not_or.mpr ⟨h1, e⟩)]
        by_cases h2 : (x : EReal) = y
        · simp only [if_pos h2, if_neg fun h3 => e ⟨h2, h3⟩]
          rfl
        · simp only [if_neg h2]
          split_ifs <;> rfl
  rw [hval]
  rcases lt_trichotomy (y : EReal) x with h | h | h
  · rw [if_pos h, if_pos (.inl h)]
    exact ⟨.inl rfl, .refl _, .inl h⟩
  · subst h
    rw [if_neg (lt_irrefl _)]
    by_cases h3 : i.toInt < j.toInt
    · rw [if_pos (.inr ⟨rfl, h3⟩)]
      exact ⟨.inl rfl, .refl _, .inr ⟨rfl, h3.le⟩⟩
    · rw [if_neg (by rintro (h | ⟨_, h⟩); exacts [lt_irrefl _ h, h3 h])]
      exact ⟨.inr rfl, .inr ⟨rfl, not_lt.mp h3⟩, .refl _⟩
  · rw [if_neg (not_lt_of_gt h), if_neg (by rintro (h' | ⟨h', _⟩); exacts [not_lt_of_gt h h', h.ne h'])]
    exact ⟨.inr rfl, .inl h, .refl _⟩

theorem argBest_isFirst (s : Vec Ideal S16x128x128 .f32) (n : Fin 16) (c : Fin 128) :
    ∃ p : Fin 128, argBest s (ix2 n c) = BitVec.ofNat 32 p.val ∧ IsFirst (fun p : Fin 128 => (s (ix3 n c p) : EReal)) p := by
  refine Viterbi.argReduce_isFirst (by norm_num) (by norm_num) _ argmax_best s _ _ _ reducesTo_S16x128x128_S16x128_d2 h_S_ neg_inf rfl (ix2 n c)
    (fun p => ix3 n c p) (fun i => ?_) (fun p => rfl)
  constructor
  · intro h
    refine ⟨i 2, ?_⟩
    have h0 : (i 0) = n := congrFun h 0
    have h1 : (i 1) = c := congrFun h 1
    rw [ValueIdx.eq_ix3 i]
    exact congrArg₂ (fun a b => ix3 a b (i 2)) h0.symm h1.symm
  · rintro ⟨p, rfl⟩
    funext a
    match a with | ⟨0, _⟩ => rfl | ⟨1, _⟩ => rfl

theorem argLast_isFirst (f : Vec Ideal S16x128 .f32) (n : Fin 16) :
    ∃ p : Fin 128, argLast f (ix1 n) = BitVec.ofNat 32 p.val ∧ IsFirst (fun p : Fin 128 => (f (ix2 n p) : EReal)) p := by
  refine Viterbi.argReduce_isFirst (by norm_num) (by norm_num) _ argmax_best f _ _ _ reducesTo_S16x128_S16_d1 h_S_ neg_inf rfl (ix1 n)
    (fun p => ix2 n p) (fun i => ?_) (fun p => rfl)
  constructor
  · intro h
    refine ⟨i 1, ?_⟩
    have h0 : (i 0) = n := congrFun h 0
    rw [ValueIdx.eq_ix2 i]
    exact congrArg (fun a => ix2 a (i 1)) h0.symm
  · rintro ⟨p, rfl⟩
    funext a
    match a with | ⟨0, _⟩ => rfl

end Cert.ReferenceIdeal.Read

end
-- ==== Proof.RefVal.lean ====
module

public import proofs.«01_k».proof.Proof.RefRun
public import proofs.«01_k».proof.Proof.RefRead

/-! # What the reference's loops hold

The arrays before each trip: the forward scores, the two tables the forward loop fills row by row, and the tags and the path
the backward loop fills. -/

@[expose] public section

noncomputable section

namespace Cert.ReferenceIdeal.Read

open Cert.ReferenceIdeal Cert.ReferenceIdeal.Gen Cert.ReferenceIdeal.Lines Cert.ReferenceIdeal.Run
open Idealize.ShloMosaic hiding ix0 ix1 ix2 ix3 ix4
open Idealize.ShloMosaic.ValueIdx Idealize.ShloMosaic.TcCoe

variable {F : FTy → Type} [FloatOps F]
variable (m : (ℓ : Loc nD τ sig) → Buf (Elt F) ℓ) (c : Dev nD)

/-- A counter's array is the word. -/
theorem count_eq : ∀ k, count (F := F) k = word k
  | 0 => funext fun _ => Scf.iv_zero _ _
  | k + 1 => by rw [← next_count, count_eq k, next_word]

/-! ## Forward -/

/-- What the forward loop leaves alone. -/
theorem A_same {r : Ref sig .tc} (h : r ∉ fwdCondWrites ++ fwd0Writes ++ fwd1Writes ++ fwd2Writes ++ fwd3Writes
    ++ fwd4Writes ++ fwd5Writes ++ fwd6Writes ++ fwd7Writes) : ∀ k, A m k c (Proc.devRef .tc r) = A m 0 c (Proc.devRef .tc r)
  | 0 => rfl
  | k + 1 => by rw [A_succ, fwdTrip_keeps _ h, A_same h k]

/-- The observations, one row of tags per sequence and time. -/
def obs : Vec F S512x16x128 .f32 :=
  transpose S512x16x128 [2, 0, 1] (m ((c.tc : Thread nD τ).loc main_arg0)) transposes_S16x128x512_S512x16x128_2_0_1
/-- The transition scores. -/
def trans : Vec F S128x128 .f32 := m ((c.tc : Thread nD τ).loc main_arg1)
/-- The scores before the `k`-th forward trip. -/
def fv (k : ℕ) : Vec F S16x128 .f32 := A m k c (Proc.devRef .tc main_v4_3)

theorem A_obs (k : ℕ) : A m k c (Proc.devRef .tc main_v4_0) = obs m c := by
  rw [A_same m c (by decide), A_zero, entry_obs]
  rfl

theorem A_trans (k : ℕ) : A m k c (Proc.devRef .tc main_v4_1) = trans m c := by
  rw [A_same m c (by decide), A_zero, entry_trans]
  rfl

theorem fv_zero : fv m c 0 = fun _ => FloatOps.ofBits .f32 0x00000000#32 := by
  unfold fv
  rw [A_zero, entry_f]
  rfl

theorem fv_succ (k : ℕ) : fv m c (k + 1) = addf (best (scores (trans m c) (fv m c k))) (row3 (obs m c) (word k)) := by
  unfold fv
  rw [A_succ, fwd_f, A_obs, A_trans, A_count, count_eq]

/-- The table of best previous tags, a row per trip done. -/
theorem table_apply (n : Fin 16) (t : Fin 128) : ∀ (k : ℕ), k ≤ 512 → ∀ j : Fin 512, j.val < k →
    (A m k c (Proc.devRef .tc main_v4_4) : Vec F S512x16x128 .i32) (ix3 j n t) = argBest (scores (trans m c) (fv m c j.val)) (ix2 n t)
  | 0, _, _, hj => absurd hj (Nat.not_lt_zero _)
  | k + 1, hk, j, hj => by
    rw [A_succ, fwd_b, A_trans, A_count, count_eq]
    rw [show word (F := F) k = word (⟨k, hk⟩ : Fin 512).val from rfl, put3_apply]
    by_cases h : j = ⟨k, hk⟩
    · rw [if_pos h, h]
      rfl
    · rw [if_neg h]
      exact table_apply n t k (Nat.le_of_succ_le hk) j (Nat.lt_of_le_of_ne (Nat.le_of_lt_succ hj) fun e => h (Fin.ext e))

/-- The table of best last tags, a row per trip done. -/
theorem ends_apply (n : Fin 16) : ∀ (k : ℕ), k ≤ 512 → ∀ j : Fin 512, j.val < k →
    (A m k c (Proc.devRef .tc main_v4_5) : Vec F S512x16 .i32) (ix2 j n) = argLast (fv m c (j.val + 1)) (ix1 n)
  | 0, _, _, hj => absurd hj (Nat.not_lt_zero _)
  | k + 1, hk, j, hj => by
    rw [A_succ, fwd_e, A_count, count_eq]
    rw [show word (F := F) k = word (⟨k, hk⟩ : Fin 512).val from rfl, put2_apply]
    by_cases h : j = ⟨k, hk⟩
    · rw [if_pos h, h]
      rfl
    · rw [if_neg h]
      exact ends_apply n k (Nat.le_of_succ_le hk) j (Nat.lt_of_le_of_ne (Nat.le_of_lt_succ hj) fun e => h (Fin.ext e))

/-! ## Backward -/

/-- The tables the backward loop reads are those, last row first. -/
theorem B_table (k : ℕ) (j : Fin 512) (n : Fin 16) (t : Fin 128) :
    (B m k c (Proc.devRef .tc main_v16_0) : Vec F S512x16x128 .i32) (ix3 j n t)
      = argBest (scores (trans m c) (fv m c (511 - j.val))) (ix2 n t) := by
  rw [B_keeps m c (by decide), B0, between_b, fwdCond_keeps _ (by decide), Host.reverse_apply]
  rw [← show (j.rev).val = 511 - j.val from by rw [Fin.val_rev]; omega, ← table_apply m c n t 512 le_rfl j.rev j.rev.isLt]
  refine congrArg (A m 512 c (Proc.devRef .tc main_v4_4) : Vec F S512x16x128 .i32) (funext fun a => ?_)
  match a with
  | ⟨0, _⟩ => rfl
  | ⟨1, _⟩ => rfl
  | ⟨2, _⟩ => rfl

theorem B_end (k : ℕ) (n : Fin 16) :
    (B m k c (Proc.devRef .tc main_v16_1) : Vec F S512x16 .i32) (ix2 (0 : Fin 512) n) = argLast (fv m c 512) (ix1 n) := by
  rw [B_keeps m c (by decide), B0, between_e, fwdCond_keeps _ (by decide), Host.reverse_apply]
  refine Eq.trans ?_ (ends_apply m c n 512 le_rfl (Fin.rev 0) (Fin.rev (0 : Fin 512)).isLt)
  refine congrArg (A m 512 c (Proc.devRef .tc main_v4_5) : Vec F S512x16 .i32) (funext fun a => ?_)
  match a with
  | ⟨0, _⟩ => rfl
  | ⟨1, _⟩ => rfl

theorem B_mask (k : ℕ) : B m k c (Proc.devRef .tc main_v16_2) = lastMask (F := F) := by
  rw [B_keeps m c (by decide), B0, between_l]

/-- The tags after `r` backward trips. -/
def tags (r : ℕ) : Vec F S16 .i32 := B m r c (Proc.devRef .tc main_v16_4)

/-- The tag a backward trip starts from: the best last tag in the first trip, the tag before afterwards. -/
def fromTag (r : ℕ) (n : Fin 16) : BitVec 32 := if r = 0 then argLast (fv m c 512) (ix1 n) else tags m c r (ix1 n)

theorem tags_succ (r : Fin 512) (n : Fin 16) (p : Fin 128) (hp : fromTag m c r.val n = BitVec.ofNat 32 p.val) :
    tags m c (r.val + 1) (ix1 n) = argBest (scores (trans m c) (fv m c (511 - r.val))) (ix2 n p) := by
  unfold tags
  rw [B_succ, bwd_t, B_count, count_eq, B_mask]
  rw [stepBack_apply _ _ n p]
  · rw [row3_apply, B_table]
  · rw [startOr_apply _ _ _ _ (fun i => (entry1_apply _ r i).trans (lastMask_apply r)), row2_apply, ← hp]
    unfold fromTag tags
    by_cases h : r.val = 0
    · rw [if_pos h, if_pos h, if_pos rfl, show r = (0 : Fin 512) from Fin.ext h]
      exact B_end m c 0 n
    · rw [if_neg h, if_neg h, if_neg (by decide)]

/-- The path, a row per trip done. -/
theorem path_apply (n : Fin 16) : ∀ (k : ℕ), k ≤ 512 → ∀ j : Fin 512, j.val < k →
    (B m k c (Proc.devRef .tc main_v16_5) : Vec F S512x16 .i32) (ix2 j n) = tags m c (j.val + 1) (ix1 n)
  | 0, _, _, hj => absurd hj (Nat.not_lt_zero _)
  | k + 1, hk, j, hj => by
    rw [B_succ, bwd_p, B_count, count_eq]
    rw [show word (F := F) k = word (⟨k, hk⟩ : Fin 512).val from rfl, put2_apply]
    by_cases h : j = ⟨k, hk⟩
    · rw [if_pos h, h]
      rfl
    · rw [if_neg h]
      exact path_apply n k (Nat.le_of_succ_le hk) j (Nat.lt_of_le_of_ne (Nat.le_of_lt_succ hj) fun e => h (Fin.ext e))

/-- The reference's result at a sequence and a time. -/
theorem result_apply (n : Fin 16) (t : Fin 512) :
    (Z m c (Proc.devRef .tc main_v18) : Vec F S16x512 .i32) (ix2 n t) = tags m c (512 - t.val) (ix1 n) := by
  rw [Z, tail_out, bwdCond_keeps _ (by decide)]
  rw [show 512 - t.val = (t.rev).val + 1 from by rw [Fin.val_rev]; omega, ← path_apply m c n 512 le_rfl t.rev t.rev.isLt]
  refine congrArg (B m 512 c (Proc.devRef .tc main_v16_5) : Vec F S512x16 .i32) (funext fun a => ?_)
  match a with
  | ⟨0, _⟩ => rfl
  | ⟨1, _⟩ => rfl

end Cert.ReferenceIdeal.Read

end
-- ==== Proof.KernelRead.lean ====
module

public import proofs.«01_k».proof.Proof.Spec
public import proofs.«01_k».proof.Proof.First
public import Idealize.ShloMosaic.Lib.ValueIdx
public import Idealize.ShloMosaic.Lib.ValueLayout
public import Idealize.ShloMosaic.Lib.ValueLayoutCasts
public import Idealize.ShloMosaic.Lib.Pointwise.ShapeOpsCore

/-! # The kernel's values, element by element

Each value of `Spec.lean` read at one sequence and one tag, at the ideal values: the best score is the maximum over the
previous tags, the kept tag is the first at which it is reached, and a step back reads the kept tag. -/

@[expose] public section

noncomputable section

namespace Viterbi

open Idealize.ShloMosaic hiding ix0 ix1 ix2 ix3 ix4
open Idealize.ShloMosaic.ValueIdx

/-! ## Layout -/

section Layout
variable {F : FTy → Type} [FloatOps F]

theorem rowVal_apply (T : Vec F SCC .f32) (d : ℕ) (h : d < 128) (n : Fin 16) (c : Fin 128) :
    rowVal T d h (ix2 n c) = T (ix2 (⟨d, h⟩ : Fin 128) c) := by
  unfold rowVal
  rw [broadcastTo_1b_ab_apply, shapeCast_self, shapeCast_a_1a_apply, shapeCast_1a_a_apply]
  refine congrArg T (funext fun a => ?_)
  match a with
  | ⟨0, _⟩ => exact Fin.ext (by show d + (0 : ℕ) * 1 = d; omega)
  | ⟨1, _⟩ => exact Fin.ext (by show 0 + 1 * c.val = c.val; omega)

theorem rowAt_apply (T : Vec F SCC .f32) (d : Fin 128) (n : Fin 16) (c : Fin 128) : rowAt T d.val (ix2 n c) = T (ix2 d c) := by
  rw [rowAt_eq T d.val d.isLt, rowVal_apply]

theorem posVal_apply {e : EltTy} (O : Vec F SLNC e) (t : ℕ) (h : t < 512) (n : Fin 16) (c : Fin 128) :
    posVal O t h (ix2 n c) = O (ix3 (⟨t, h⟩ : Fin 512) n c) := by
  unfold posVal
  rw [shapeCast_1ab_ab_apply]
  refine congrArg O (funext fun a => ?_)
  match a with
  | ⟨0, _⟩ => exact Fin.ext (by show t + (0 : ℕ) * 1 = t; omega)
  | ⟨1, _⟩ => exact Fin.ext (by show 0 + 1 * n.val = n.val; omega)
  | ⟨2, _⟩ => exact Fin.ext (by show 0 + 1 * c.val = c.val; omega)

theorem obsVal_apply (O : Vec F SLNC .f32) (t : Fin 512) (n : Fin 16) (c : Fin 128) :
    obsVal O t.val (ix2 n c) = O (ix3 t n c) := by
  rw [obsVal_eq O t.val t.isLt, posVal_apply]

theorem turned_apply (fv : FVec F SNC .f32) (d : Fin 128) (n : Fin 16) (c : Fin 128) :
    turned fv d.val (ix2 n c) = fv (ix2 n (c - d)) := by
  obtain ⟨d, hd⟩ := d
  match d with
  | 0 =>
    show fv (ix2 n c) = _
    rw [show (c - (⟨0, hd⟩ : Fin 128)) = c from sub_zero c]
  | d + 1 =>
    refine congrArg fv (funext fun a => ?_)
    match a with
    | ⟨0, _⟩ => rfl
    | ⟨1, _⟩ =>
      apply Fin.ext
      show (c.val + 128 - ((BitVec.ofNat 32 (d + 1)).toNat + 0) % 128) % 128 = (c - (⟨d + 1, hd⟩ : Fin 128)).val
      rw [BitVec.toNat_ofNat, Nat.mod_eq_of_lt (show d + 1 < 2 ^ 32 by omega), Fin.sub_def]
      show _ = (128 - (d + 1) + c.val) % 128
      congr 1
      omega

theorem lanes_apply (n : Fin 16) (c : Fin 128) : lanes (ix2 n c) = BitVec.ofNat 32 c.val := by
  show BitVec.ofNat 32 (0 * 128 + c.val) = _
  rw [Nat.zero_mul, Nat.zero_add]

theorem column_apply {α : Type} (x : SN1.Idx → α) (n : Fin 16) (c : Fin 128) :
    broadcastTo SNC x bcast_SN1_SNC (ix2 n c) = x (ix2 n (0 : Fin 1)) := by
  refine congrArg x (funext fun a => ?_)
  match a with
  | ⟨0, _⟩ => exact Fin.ext rfl
  | ⟨1, _⟩ => exact Fin.ext rfl

theorem asRow_apply (bt : IVec SN1 32) (n : Fin 16) : asRow bt (ix2 (0 : Fin 1) n) = bt (ix2 n (0 : Fin 1)) := by
  unfold asRow
  rw [shapeCast_a_1a_apply]
  exact shapeCast_apply bt cast_SN1_SN (ix1 n) (ix2 n (0 : Fin 1)) (by
    rw [Shape.rowMajor_val_two, Shape.rowMajor_val_one]
    show n.val * 1 + 0 = n.val
    omega)

/-- The index that reducing the tags inserts. -/
theorem lift_apply (n : Fin 16) (c : Fin 128) : red_SNC_SN.lift (ix1 n) c = ix2 n c := by
  funext a
  match a with
  | ⟨0, _⟩ => exact Fin.ext rfl
  | ⟨1, _⟩ => exact Fin.ext rfl

end Layout

/-! ## A step forward -/

theorem score_apply (T : Vec Ideal SCC .f32) (fv : FVec Ideal SNC .f32) (d : Fin 128) (n : Fin 16) (c : Fin 128) :
    (scoreVal T fv d.val (ix2 n c) : EReal) = fv (ix2 n (c - d)) + T (ix2 d c) := by
  show (turned fv d.val (ix2 n c) : EReal) + rowAt T d.val (ix2 n c) = _
  rw [turned_apply, rowAt_apply]

/-- Distances and previous tags correspond. -/
theorem back_place (c p : Fin 128) : c - (c - p) = p := by abel

variable {T I : Vec Ideal SCC .f32} {trans : Fin 128 → Fin 128 → EReal}
  (hT : ∀ d c, (T (ix2 d c) : EReal) = trans c (c - d)) (hI : ∀ d c : Fin 128, (I (ix2 d c) : EReal) = (((c - d).val : ℝ) : EReal))

include hT in
/-- The best score of a tag is the largest over the previous tags. -/
theorem best_isMax (fv : FVec Ideal SNC .f32) (n : Fin 16) (c : Fin 128) :
    IsMax (fun p : Fin 128 => (fv (ix2 n p) : EReal) + trans c p) (bestVal T fv (ix2 n c)) := by
  obtain ⟨hle, e, he, hval⟩ := tree_max (scoreVal T fv) (ix2 n c) 7 0
  have hs : ∀ d : Fin 128, (scoreVal T fv (0 + d.val) (ix2 n c) : EReal) = fv (ix2 n (c - d)) + trans c (c - d) := fun d => by
    rw [Nat.zero_add, score_apply, hT]
  constructor
  · intro p
    have := hle (c - p).val (c - p).isLt
    rw [hs, back_place] at this
    exact this
  · refine ⟨c - (⟨e, he⟩ : Fin 128), ?_⟩
    exact (hs ⟨e, he⟩).symm.trans hval

theorem cmp_oeq (a b : EReal) : FloatOps.cmpf (F := Ideal) (φ := .f32) .oeq a b = if a = b then 1#1 else 0#1 := by
  show BitVec.ofBool (decide (a = b)) = _
  by_cases h : a = b <;> simp [h]

theorem bits_128 : (Scalar.ofBits .f32 0x43000000#32 : Ideal .f32) = ((128 : ℝ) : EReal) := by
  show Ideal.ofBits .f32 0x43000000#32 = _
  simp [Ideal.ofBits, Ideal.ieee]
  rw [← EReal.coe_mul]
  norm_num

include hT hI in
/-- What the second pass holds at a distance: that distance's previous tag if it gives the best score, 128 if not. -/
theorem pick_apply (fv : FVec Ideal SNC .f32) (d : Fin 128) (n : Fin 16) (c : Fin 128) :
    (pickVal T I fv d.val (ix2 n c) : EReal)
      = if (fv (ix2 n (c - d)) : EReal) + trans c (c - d) = bestVal T fv (ix2 n c) then (((c - d).val : ℝ) : EReal) else ((128 : ℝ) : EReal) := by
  show Scalar.select (FloatOps.cmpf .oeq (scoreVal T fv d.val (ix2 n c)) (bestVal T fv (ix2 n c))) (rowAt I d.val (ix2 n c))
    (Scalar.ofBits .f32 0x43000000#32 : Ideal .f32) = _
  rw [score_apply, hT, rowAt_apply, hI, bits_128, cmp_oeq]
  split
  · exact select_one _ _
  · exact select_zero _ _

theorem fptosi_nat (p : ℕ) (hp : p < 2 ^ 31) : FloatOps.fptosi (F := Ideal) (φ := .f32) 32 (((p : ℝ) : EReal)) = BitVec.ofNat 32 p := by
  show BitVec.ofInt 32 (max (-(2 ^ 31 : ℕ) : ℤ) (min (((2 ^ 31 : ℕ) : ℤ) - 1) (if 0 ≤ (p : ℝ) then ⌊(p : ℝ)⌋ else ⌈(p : ℝ)⌉))) = _
  rw [if_pos (Nat.cast_nonneg p), Int.floor_natCast, min_eq_right (by norm_num at hp ⊢; omega), max_eq_right (by norm_num)]
  exact BitVec.ofInt_natCast 32 p

include hT hI in
/-- The kept tag is the first previous tag with the largest score. -/
theorem back_isFirst (fv : FVec Ideal SNC .f32) (n : Fin 16) (c : Fin 128) :
    ∃ p : Fin 128, backVal T I fv (ix2 n c) = BitVec.ofNat 32 p.val ∧ IsFirst (fun p : Fin 128 => (fv (ix2 n p) : EReal) + trans c p) p := by
  obtain ⟨hle, e, he, hval⟩ := tree_min (pickVal T I fv) (ix2 n c) 7 0
  obtain ⟨hmax, q, hq⟩ := best_isMax hT fv n c
  have hs : ∀ d : Fin 128, (pickVal T I fv (0 + d.val) (ix2 n c) : EReal)
      = if (fv (ix2 n (c - d)) : EReal) + trans c (c - d) = bestVal T fv (ix2 n c) then (((c - d).val : ℝ) : EReal) else ((128 : ℝ) : EReal) := fun d => by
    rw [Nat.zero_add]; exact pick_apply hT hI fv d n c
  have hqle : (treeVal minimumf (pickVal T I fv) 7 0 (ix2 n c) : EReal) ≤ ((q.val : ℝ) : EReal) := by
    have := hle (c - q).val (c - q).isLt
    rw [hs, back_place, if_pos hq] at this
    exact this
  have hlt : ((q.val : ℝ) : EReal) < ((128 : ℝ) : EReal) := by
    rw [EReal.coe_lt_coe_iff]; exact_mod_cast q.isLt
  have hsel := hs ⟨e, he⟩
  rw [show (0 + (⟨e, he⟩ : Fin 128).val) = 0 + e from rfl, hval] at hsel
  by_cases hb : (fv (ix2 n (c - (⟨e, he⟩ : Fin 128))) : EReal) + trans c (c - ⟨e, he⟩) = bestVal T fv (ix2 n c)
  · rw [if_pos hb] at hsel
    refine ⟨c - ⟨e, he⟩, ?_, fun p => ?_, fun p hp => ?_⟩
    · show FloatOps.fptosi 32 (treeVal minimumf (pickVal T I fv) 7 0 (ix2 n c)) = _
      rw [hsel]
      exact fptosi_nat _ (by omega)
    · simp only [hb]; exact hmax p
    · simp only [hb] at hp
      have := hle (c - p).val (c - p).isLt
      rw [hs, back_place, if_pos hp, hsel, EReal.coe_le_coe_iff] at this
      exact Fin.mk_le_mk.mpr (by exact_mod_cast this)
  · rw [if_neg hb] at hsel
    rw [hsel] at hqle
    exact absurd hlt (not_lt_of_ge hqle)

/-! ## The path -/

theorem eq_word (p q : ℕ) (hp : p < 128) (hq : q < 128) : BitVec.ofNat 32 p = BitVec.ofNat 32 q ↔ p = q := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- A fold by an operation that chooses the lower of two words, in an order. -/
theorem fold_choice {n : ℕ} (op : BitVec 32 → BitVec 32 → BitVec 32) [Std.Commutative op] [Std.Associative op] (le : BitVec 32 → BitVec 32 → Prop)
    (htr : ∀ {a b c}, le a b → le b c → le a c) (hop : ∀ a b, (op a b = a ∨ op a b = b) ∧ le (op a b) a ∧ le (op a b) b)
    (init : BitVec 32) (f : Fin n → BitVec 32) (s : Finset (Fin n)) :
    (∀ i ∈ s, le (s.fold op init f) (f i)) ∧ (s.fold op init f = init ∨ ∃ i ∈ s, s.fold op init f = f i) := by
  induction s using Finset.induction_on with
  | empty => exact ⟨fun _ h => absurd h (Finset.notMem_empty _), .inl Finset.fold_empty⟩
  | insert a s ha ih =>
    rw [Finset.fold_insert ha]
    obtain ⟨hor, h1, h2⟩ := hop (f a) (s.fold op init f)
    refine ⟨fun i hi => ?_, ?_⟩
    · rcases Finset.mem_insert.mp hi with rfl | hi
      · exact h1
      · exact htr h2 (ih.1 i hi)
    · rcases hor with h | h
      · exact .inr ⟨a, Finset.mem_insert_self _ _, h⟩
      · rcases ih.2 with h' | ⟨i, hi, h'⟩
        · exact .inl (h.trans h')
        · exact .inr ⟨i, Finset.mem_insert_of_mem hi, h.trans h'⟩

/-- The smallest word of a row. -/
theorem row_min (x : IVec SNC 32) (acc : BitVec 32) (hacc : acc = IKind.minsi.neutral) (n : Fin 16) :
    ∃ y, multiReductionI .minsi [1] SN x acc red_SNC_SN hacc (ix1 n) = y ∧ (∀ c : Fin 128, y.toInt ≤ (x (ix2 n c)).toInt)
      ∧ (y = acc ∨ ∃ c : Fin 128, y = x (ix2 n c)) := by
  rw [multiReductionI_eq_fold, red_SNC_SN.fold_filter_drop_single]
  obtain ⟨h1, h2⟩ := fold_choice (n := 128) IKind.minsi.op (fun a b => a.toInt ≤ b.toInt) (fun h h' => h.trans h') (fun a b => by
    show (IntOp.minsi a b = a ∨ IntOp.minsi a b = b) ∧ _
    have hslt := BitVec.slt_iff_toInt_lt (x := a) (y := b)
    show (_ ∨ _) ∧ (IntOp.minsi a b).toInt ≤ _ ∧ (IntOp.minsi a b).toInt ≤ _
    unfold IntOp.minsi
    by_cases h : a.slt b = true
    · rw [if_pos h]; exact ⟨.inl rfl, le_rfl, (hslt.mp h).le⟩
    · rw [if_neg h]; exact ⟨.inr rfl, not_lt.mp fun h' => h (hslt.mpr h'), le_rfl⟩) acc (x ∘ red_SNC_SN.lift (ix1 n)) Finset.univ
  refine ⟨_, rfl, fun c => ?_, h2.imp id fun ⟨c, _, hc⟩ => ⟨c, ?_⟩⟩
  · exact (h1 c (Finset.mem_univ c)).trans_eq (congrArg (fun i => (x i).toInt) (lift_apply n c))
  · exact hc.trans (congrArg x (lift_apply n c))

/-- The largest word of a row. -/
theorem row_max (x : IVec SNC 32) (acc : BitVec 32) (hacc : acc = IKind.maxsi.neutral) (n : Fin 16) :
    ∃ y, multiReductionI .maxsi [1] SN x acc red_SNC_SN hacc (ix1 n) = y ∧ (∀ c : Fin 128, (x (ix2 n c)).toInt ≤ y.toInt)
      ∧ (y = acc ∨ ∃ c : Fin 128, y = x (ix2 n c)) := by
  rw [multiReductionI_eq_fold, red_SNC_SN.fold_filter_drop_single]
  obtain ⟨h1, h2⟩ := fold_choice (n := 128) IKind.maxsi.op (fun a b => b.toInt ≤ a.toInt) (fun h h' => h'.trans h) (fun a b => by
    show (IntOp.maxsi a b = a ∨ IntOp.maxsi a b = b) ∧ _
    have hslt := BitVec.slt_iff_toInt_lt (x := b) (y := a)
    show (_ ∨ _) ∧ _ ≤ (IntOp.maxsi a b).toInt ∧ _ ≤ (IntOp.maxsi a b).toInt
    unfold IntOp.maxsi
    by_cases h : b.slt a = true
    · rw [if_pos h]; exact ⟨.inl rfl, le_rfl, (hslt.mp h).le⟩
    · rw [if_neg h]; exact ⟨.inr rfl, not_lt.mp fun h' => h (hslt.mpr h'), le_rfl⟩) acc (x ∘ red_SNC_SN.lift (ix1 n)) Finset.univ
  refine ⟨_, rfl, fun c => ?_, h2.imp id fun ⟨c, _, hc⟩ => ⟨c, ?_⟩⟩
  · exact (congrArg (fun i => (x i).toInt) (lift_apply n c)).symm.trans_le (h1 c (Finset.mem_univ c))
  · exact hc.trans (congrArg x (lift_apply n c))

/-- A column of row values read at a row. -/
theorem asColumn_apply {α : Type} (x : SN.Idx → α) (n : Fin 16) : shapeCast SN1 x cast_SN_SN1 (ix2 n (0 : Fin 1)) = x (ix1 n) :=
  shapeCast_a_a1_apply x cast_SN_SN1 n 0

/-- The last tag is the first with the largest score. -/
theorem last_isFirst (fv : FVec Ideal SNC .f32) (n : Fin 16) :
    ∃ p : Fin 128, lastTag fv (ix2 n (0 : Fin 1)) = BitVec.ofNat 32 p.val ∧ IsFirst (fun p : Fin 128 => (fv (ix2 n p) : EReal)) p := by
  unfold lastTag
  rw [asColumn_apply]
  generalize hm : (shapeCast SN1 (multiReduction .maximumf [1] SN fv 0xFF800000#32 red_SNC_SN (.inl rfl) rfl) cast_SN_SN1 : FVec Ideal SN1 .f32) = mx
  have hmx : IsMax (fun p : Fin 128 => (fv (ix2 n p) : EReal)) (mx (ix2 n (0 : Fin 1))) := by
    rw [← hm, asColumn_apply]
    have e : multiReduction (F := Ideal) .maximumf [1] SN fv 0xFF800000#32 red_SNC_SN (.inl rfl) rfl (ix1 n)
        = (Finset.univ : Finset (Fin 128)).fold max (FloatOps.ofBits .f32 0xFF800000#32) (fv ∘ red_SNC_SN.lift (ix1 n)) :=
      Ideal.multiReduction_maximumf_single fv _ red_SNC_SN (.inl rfl) rfl (ix1 n)
    refine Eq.mpr (congrArg (IsMax _) e) ?_
    have := fold_max_isMax (n := 128) (by norm_num) (fun p => (fv (ix2 n p) : EReal))
    rw [show (fv ∘ red_SNC_SN.lift (ix1 n)) = fun p : Fin 128 => fv (ix2 n p) from funext fun p => congrArg fv (lift_apply n p)]
    rw [show (FloatOps.ofBits (F := Ideal) .f32 0xFF800000#32 : EReal) = ⊥ from by
      show Ideal.ofBits .f32 0xFF800000#32 = _
      simp [Ideal.ofBits, Ideal.ieee]]
    exact this
  obtain ⟨hmax, q, hq⟩ := hmx
  have hs : ∀ c : Fin 128, select (cmpf .oeq fv (broadcastTo SNC mx bcast_SN1_SNC)) lanes (broadcast SNC 128#32) (ix2 n c)
      = if (fv (ix2 n c) : EReal) = mx (ix2 n (0 : Fin 1)) then BitVec.ofNat 32 c.val else 128#32 := by
    intro c
    show Scalar.select (FloatOps.cmpf .oeq (fv (ix2 n c)) (broadcastTo SNC mx bcast_SN1_SNC (ix2 n c))) (lanes (ix2 n c)) 128#32 = _
    rw [column_apply, lanes_apply, cmp_oeq]
    split
    · exact select_one _ _
    · exact select_zero _ _
  obtain ⟨y, hy, hle, hor⟩ := row_min (select (cmpf .oeq fv (broadcastTo SNC mx bcast_SN1_SNC)) lanes (broadcast SNC 128#32)) 2147483647#32 rfl n
  rw [hy]
  have hyq : y.toInt ≤ q.val := by
    have := hle q
    rw [hs, if_pos hq, toInt_small _ (by omega)] at this
    exact this
  rcases hor with rfl | ⟨p, rfl⟩
  · exact absurd hyq (by rw [show (2147483647#32 : BitVec 32).toInt = 2147483647 from by decide]; omega)
  · rw [hs] at hyq ⊢
    by_cases hp : (fv (ix2 n p) : EReal) = mx (ix2 n (0 : Fin 1))
    · rw [if_pos hp]
      refine ⟨p, rfl, fun r => ?_, fun r hr => ?_⟩
      · simp only [hp]; exact hmax r
      · simp only [hp] at hr
        have := hle r
        rw [hs, hs, if_pos hp, if_pos hr, toInt_small _ (by omega), toInt_small _ (by omega)] at this
        exact Fin.mk_le_mk.mpr (by exact_mod_cast this)
    · rw [if_neg hp, show (128#32 : BitVec 32).toInt = 128 from by decide] at hyq
      omega

/-- A step back reads the table at the tag. -/
theorem tagFrom_apply (bt : IVec SN1 32) (b : IVec SNC 32) (n : Fin 16) (p q : Fin 128) (hbt : bt (ix2 n (0 : Fin 1)) = BitVec.ofNat 32 p.val)
    (hb : b (ix2 n p) = BitVec.ofNat 32 q.val) : tagFrom bt b (ix2 n (0 : Fin 1)) = BitVec.ofNat 32 q.val := by
  unfold tagFrom
  rw [asColumn_apply]
  have hs : ∀ c : Fin 128, select (cmpi .eq lanes (broadcastTo SNC bt bcast_SN1_SNC)) b (broadcast SNC 0#32) (ix2 n c)
      = if c = p then b (ix2 n c) else 0#32 := by
    intro c
    show Scalar.select (IntOp.cmpi .eq (lanes (ix2 n c)) (broadcastTo SNC bt bcast_SN1_SNC (ix2 n c))) (b (ix2 n c)) 0#32 = _
    rw [column_apply, lanes_apply, hbt]
    show Scalar.select (BitVec.ofBool (BitVec.ofNat 32 c.val == BitVec.ofNat 32 p.val)) _ _ = _
    have e := eq_word c.val p.val c.isLt p.isLt
    by_cases h : c = p
    · rw [if_pos h, show (BitVec.ofNat 32 c.val == BitVec.ofNat 32 p.val) = true from beq_iff_eq.mpr (e.mpr (congrArg Fin.val h))]
      exact select_one _ _
    · rw [if_neg h, show (BitVec.ofNat 32 c.val == BitVec.ofNat 32 p.val) = false from beq_eq_false_iff_ne.mpr fun h' => h (Fin.ext (e.mp h'))]
      exact select_zero _ _
  obtain ⟨y, hy, hle, hor⟩ := row_max (select (cmpi .eq lanes (broadcastTo SNC bt bcast_SN1_SNC)) b (broadcast SNC 0#32)) 2147483648#32 rfl n
  rw [hy]
  have hyq : (q.val : ℤ) ≤ y.toInt := by
    have := hle p
    rw [hs, if_pos rfl, hb, toInt_small _ (by omega)] at this
    exact this
  rcases hor with rfl | ⟨c, rfl⟩
  · exact absurd hyq (by rw [show (2147483648#32 : BitVec 32).toInt = -2147483648 from by decide]; omega)
  · rw [hs] at hyq ⊢
    by_cases h : c = p
    · rw [if_pos h, h, hb]
    · rw [if_neg h, show (0#32 : BitVec 32).toInt = 0 from by decide] at hyq
      rw [if_neg h, show q.val = 0 by omega]

end Viterbi

end
-- ==== Proof.KernelIdealHost.lean ====
module

public import proofs.«01_k».proof.Proof.KernelIdealRun
public import proofs.«01_k».proof.Proof.Take
public import Idealize.ShloMosaic.Lib.StableHlo.RunRead
public import Idealize.ShloMosaic.Lib.StableHlo.RunClose

/-! # The arrays the host lines make

Before the kernel the host turns the observations so that time comes first, makes the table `(c - d) mod 128` at `(d, c)`,
and takes the transition scores along it: the entry at `(d, c)` is the score of reaching `c` from `(c - d) mod 128`. -/

@[expose] public section

set_option maxRecDepth 8192

noncomputable section

namespace Cert.KernelIdeal.Run

open Cert.KernelIdeal Cert.KernelIdeal.Gen
open Idealize.ShloMosaic
open Idealize.ShloMosaic.ValueIdx Idealize.ShloMosaic.TcCoe Idealize.ShloMosaic.StableHlo

variable {F : FTy → Type} [FloatOps F]

/-! ## The lines as functions -/

/-- `c - d` at `(d, c)`. -/
def offsets : IVec S128x128 32 :=
  subi (broadcastInDim S128x128 ![0, 1] bcast_S1x128_S128x128_0_1 (broadcastInDim S1x128 ![1] bcast_S128_S1x128_1 (iotaInDim S128 32 0)))
    (broadcastInDim S128x128 ![0, 1] bcast_S128x1_S128x128_0_1 (broadcastInDim S128x1 ![0] bcast_S128_S128x1_0 (iotaInDim S128 32 0)))

/-- The divisor `128`, or one were it zero. -/
def divisor : IVec S_ 32 :=
  select (cmpi .eq (id (constantI S_ 32 128#32)) (constantI S_ 32 0#32)) (constantI S_ 32 1#32) (id (constantI S_ 32 128#32))

/-- The remainder that has the divisor's sign. -/
def wrap (x : IVec S128x128 32) : IVec S128x128 32 :=
  let r := Host.remsi x (broadcastInDim S128x128 ![] bcast_S_S128x128 divisor)
  select
    (andi
      (cmpi .ne (cmpi .slt r (broadcastInDim S128x128 ![] bcast_S_S128x128 (constantI S_ 32 0#32)))
        (broadcastInDim S128x128 ![] bcast_S_S128x128 (cmpi .slt divisor (constantI S_ 32 0#32))))
      (cmpi .ne r (broadcastInDim S128x128 ![] bcast_S_S128x128 (constantI S_ 32 0#32))))
    (addi r (broadcastInDim S128x128 ![] bcast_S_S128x128 divisor)) r

/-- An index below zero counted from the end, as a one-word index vector. -/
def places (i : IVec S128x128 32) : IVec S128x128x1 32 :=
  shapeCast S128x128x1
    (select (cmpi .slt i (broadcastInDim S128x128 ![] bcast_S_S128x128 (constantI S_ 32 0#32)))
      (addi i (broadcastInDim S128x128 ![] bcast_S_S128x128 (constantI S_ 32 128#32))) i) shapeCasts_S128x128_S128x128x1

/-- Whether an index is one of a row. -/
def inside (w : IVec S128x128x1 32) : IVec S128x128 1 :=
  Host.reduce IntOp.andi
    (andi (cmpi .sge w (broadcastInDim S128x128x1 ![] bcast_S_S128x128x1 (constantI S_ 32 0#32)))
      (cmpi .sle w (broadcastInDim S128x128x1 ![0, 1, 2] bcast_S1x1x1_S128x128x1_0_1_2
        (broadcastInDim S1x1x1 ![2] bcast_S1_S1x1x1_2 (constantI S1 32 127#32)))))
    (constantI S_ 1 1#1) reducesTo_S128x128x1_S128x128_d2 h_S_

/-- The entry of each row at an index. -/
def entries (x : Vec F S128x128 .f32) (i : IVec S128x128 32) : Vec F S128x128 .f32 :=
  select (inside (places i)) (Host.gather gather_S128x128_S128x128x1_S128x128_n_1_0_0_1_2_11 x (places i))
    (broadcastInDim S128x128 ![] bcast_S_S128x128 (constant S_ .f32 0x7FC00000#32))

variable (X : Valuation τ sig (Elt F))

theorem made_obs : after hostOps0 X (Proc.devRef .tc main_call0_v0)
    = transpose S512x16x128 [2, 0, 1] (X (Proc.devRef .tc main_arg0)) transposes_S16x128x512_S512x16x128_2_0_1 := by
  after_reads_simp
  simp -implicitDefEqProofs only [TRef.toBuf, TRef.ofBuf, cast_cast, cast_eq]

theorem made_offsets : after hostOps0 X (Proc.devRef .tc main_call0_v11) = sitofp .f32 (wrap offsets) := by
  after_reads_simp
  simp -implicitDefEqProofs only [TRef.toBuf, TRef.ofBuf, cast_cast, cast_eq]
  unfold wrap divisor offsets
  rfl

/-- The first thirty lines make the indices, turned over. -/
theorem made_indices : after (hostOps0.take 30) X (Proc.devRef .tc main_call0_v8)
    = transpose S128x128 [1, 0] (wrap offsets) transposes_S128x128_S128x128_1_0 := by
  simp only [hostOps0, List.take_succ_cons, List.take_zero]
  after_reads_simp
  simp -implicitDefEqProofs only [TRef.toBuf, TRef.ofBuf, cast_cast, cast_eq]
  unfold wrap divisor offsets
  rfl

theorem kept_scores : after (hostOps0.take 30) X (Proc.devRef .tc main_arg1) = X (Proc.devRef .tc main_arg1) := by
  simp only [hostOps0, List.take_succ_cons, List.take_zero]
  after_reads_simp

/-- The lines after them take the entries. -/
theorem made_entries : after (hostOps0.drop 30) X (Proc.devRef .tc main_call0_v10)
    = transpose S128x128 [1, 0] (entries (X (Proc.devRef .tc main_arg1)) (X (Proc.devRef .tc main_call0_v8)))
        transposes_S128x128_S128x128_1_0 := by
  simp only [hostOps0, List.drop_succ_cons, List.drop_zero]
  after_reads_simp
  simp -implicitDefEqProofs only [TRef.toBuf, TRef.ofBuf, cast_cast, cast_eq]
  unfold entries inside places
  rfl

theorem made_scores : after hostOps0 X (Proc.devRef .tc main_call0_v10)
    = transpose S128x128 [1, 0] (entries (X (Proc.devRef .tc main_arg1))
        (transpose S128x128 [1, 0] (wrap offsets) transposes_S128x128_S128x128_1_0)) transposes_S128x128_S128x128_1_0 := by
  rw [← List.take_append_drop 30 hostOps0, after_append, made_entries, made_indices, kept_scores]

/-! ## Their values -/

/-- The remainder of a word by `128` that is not negative. -/
def wrapWord (x : BitVec 32) : BitVec 32 :=
  Scalar.select (IntOp.andi (IntOp.cmpi .ne (IntOp.cmpi .slt (IntOp.remsi .host x 128#32) 0#32) (IntOp.cmpi .slt 128#32 0#32))
    (IntOp.cmpi .ne (IntOp.remsi .host x 128#32) 0#32)) (IntOp.addi (IntOp.remsi .host x 128#32) 128#32) (IntOp.remsi .host x 128#32)

theorem wrapWord_sub : ∀ c d : Fin 128, wrapWord (BitVec.ofNat 32 c.val - BitVec.ofNat 32 d.val) = BitVec.ofNat 32 (c - d).val := by
  decide +kernel

theorem wrap_apply (d c : Fin 128) : wrap offsets (ix2 d c) = BitVec.ofNat 32 (c - d).val :=
  wrapWord_sub c d

theorem places_apply (i : IVec S128x128 32) (n b p : Fin 128) (h : i (ix2 n b) = BitVec.ofNat 32 p.val) :
    places i (ix3 n b (0 : Fin 1)) = BitVec.ofNat 32 p.val := by
  unfold places
  rw [shapeCast_apply _ shapeCasts_S128x128_S128x128x1 (ix3 n b (0 : Fin 1)) (ix2 n b) (by
    rw [Shape.rowMajor_val_two, Shape.rowMajor_val_three]
    show n.val * 128 + b.val = (n.val * 128 + b.val) * 1 + 0
    omega)]
  show Scalar.select (IntOp.cmpi .slt (i (ix2 n b)) 0#32) _ (i (ix2 n b)) = _
  rw [h, Viterbi.not_negative _ p.isLt]
  rfl

theorem inside_apply (w : IVec S128x128x1 32) (n b p : Fin 128) (h : w (ix3 n b (0 : Fin 1)) = BitVec.ofNat 32 p.val) :
    inside w (ix2 n b) = 1#1 := by
  unfold inside
  rw [Host.reduce_eq_fold_single IntOp.andi _ _ reducesTo_S128x128x1_S128x128_d2 (by decide) h_S_]
  refine Viterbi.fold_one _ rfl _ ?_
  show IntOp.andi (IntOp.cmpi .sge (w _) 0#32) (IntOp.cmpi .sle (w _) 127#32) = 1#1
  rw [show (Shape.Reduces.lift (a := (2 : Fin 3)) (s := S128x128x1) (t := S128x128) (by decide) (ix2 n b) (0 : Fin 1)) = ix3 n b (0 : Fin 1) from
    funext fun a => Fin.ext (by match a with | ⟨0, _⟩ => rfl | ⟨1, _⟩ => rfl | ⟨2, _⟩ => rfl), h]
  exact Viterbi.in_range p.val p.isLt

theorem entries_apply (x : Vec F S128x128 .f32) (i : IVec S128x128 32) (n b p : Fin 128) (h : i (ix2 n b) = BitVec.ofNat 32 p.val) :
    entries x i (ix2 n b) = x (ix2 n p) := by
  have hp := places_apply i n b p h
  unfold entries
  show Scalar.select (inside (places i) (ix2 n b)) (Host.gather _ x (places i) (ix2 n b)) _ = _
  rw [inside_apply _ n b p hp]
  refine (select_one _ _).trans ?_
  rw [Viterbi.gather_row_apply (N := 128) (C := 128) (B := 128) (by norm_num) gather_S128x128_S128x128x1_S128x128_n_1_0_0_1_2_11
    rfl rfl rfl rfl rfl rfl rfl]
  refine congrArg x (congrArg (ix2 n) (Fin.ext ?_))
  show min (places i (ix3 n b (0 : Fin 1))).toInt.toNat (128 - 1) = p.val
  rw [hp]
  exact Viterbi.column_of p

/-- A square array turned over. -/
theorem turn_apply {α : Type} (x : S128x128.Idx → α) (a b : Fin 128) :
    transpose S128x128 [1, 0] x transposes_S128x128_S128x128_1_0 (ix2 a b) = x (ix2 b a) := by
  refine congrArg x (funext fun e => Fin.ext ?_)
  match e with
  | ⟨0, _⟩ => rfl
  | ⟨1, _⟩ => rfl

variable (m : (ℓ : Loc nD τ sig) → Buf (Elt F) ℓ) (c : Dev nD)

theorem V_obs : V m c main_call0_v0
    = transpose S512x16x128 [2, 0, 1] (m ((c : Thread nD τ).loc main_arg0)) transposes_S16x128x512_S512x16x128_2_0_1 :=
  made_obs _

theorem V_scores (d k : Fin 128) : (V m c main_call0_v10 : Vec F S128x128 .f32) (ix2 d k)
    = (m ((c : Thread nD τ).loc main_arg1) : Vec F S128x128 .f32) (ix2 k (k - d)) := by
  rw [show V m c main_call0_v10 = _ from made_scores _]
  rw [turn_apply, entries_apply _ _ k d (k - d) ((turn_apply _ k d).trans (wrap_apply d k))]

theorem V_offsets (m : (ℓ : Loc nD τ sig) → Buf (Elt Ideal) ℓ) (d k : Fin 128) :
    ((V m c main_call0_v11 : Vec Ideal S128x128 .f32) (ix2 d k) : EReal) = (((k - d).val : ℝ) : EReal) := by
  rw [show V m c main_call0_v11 = _ from made_offsets _]
  show FloatOps.sitofp (F := Ideal) .f32 (wrap offsets (ix2 d k)) = _
  rw [wrap_apply]
  show (((BitVec.ofNat 32 (k - d).val).toInt : ℝ) : EReal) = _
  rw [Viterbi.toInt_small _ (by omega)]
  simp

end Cert.KernelIdeal.Run

end
-- ==== Proof.KernelIdealVal.lean ====
module

public import proofs.«01_k».proof.Proof.KernelIdealHost
public import Idealize.ShloMosaic.Lib.Pipeline.ValueKit

/-! # What `KernelIdeal` returns

Each block is a whole array, so the result is `Viterbi.pathVal` of the three arrays the host made, turned over. -/

@[expose] public section

set_option maxRecDepth 8192

noncomputable section

namespace Cert.KernelIdeal.Run

open Cert.KernelIdeal Cert.KernelIdeal.Gen
open Idealize.ShloMosaic hiding ix0 ix1 ix2 ix3 ix4
open Idealize.ShloMosaic.ValueIdx Idealize.ShloMosaic.TcCoe Idealize.ShloMosaic.StableHlo
open Idealize.SL.Sem
open Idealize.ShloMosaic.Pipeline (Dat Window)

variable {F : FTy → Type} [FloatOps F]
variable (m : (ℓ : Loc nD τ sig) → Buf (Elt F) ℓ) (ρ : Dev nD → PrngReg) (c : Dev nD)

/-- The one point of the grid. -/
abbrev point : Fin cfg0.N := ⟨0, by decide⟩

/-! ## Blocks -/

theorem block_obs : iblk m c 0 point = (V m c main_call0_v0 : Vec F S512x16x128 .f32) :=
  funext fun i => congrArg (V m c main_call0_v0 : Vec F S512x16x128 .f32) (funext fun a => Fin.ext
    (((cfg0.win 0).rect_emb_val_of_index_zero point a ((by decide +kernel : ∀ a, (cfg0.win 0).index point a = 0) a) i)))

theorem block_scores : iblk m c 1 point = (V m c main_call0_v10 : Vec F S128x128 .f32) :=
  funext fun i => congrArg (V m c main_call0_v10 : Vec F S128x128 .f32) (funext fun a => Fin.ext
    (((cfg0.win 1).rect_emb_val_of_index_zero point a ((by decide +kernel : ∀ a, (cfg0.win 1).index point a = 0) a) i)))

theorem block_offsets : iblk m c 2 point = (V m c main_call0_v11 : Vec F S128x128 .f32) :=
  funext fun i => congrArg (V m c main_call0_v11 : Vec F S128x128 .f32) (funext fun a => Fin.ext
    (((cfg0.win 2).rect_emb_val_of_index_zero point a ((by decide +kernel : ∀ a, (cfg0.win 2).index point a = 0) a) i)))

/-- The path array after the kernel. -/
theorem path_array : (dats m 0 c).arrAt 3 cfg0.N = oblk m c point := by
  refine (dats m 0 c).arrAt_eq_of_after_last 3 point (by decide +kernel) _ fun j => ?_
  rw [after_3]
  rfl

/-! ## The result -/

theorem arrRef_injective : Function.Injective (Pipeline.arrRef spec0) := by decide

/-- The path of each sequence, from the arguments. -/
def answer : Vec F S16x512 .i32 :=
  transpose S16x512 [1, 0]
    (Viterbi.pathVal (V m c main_call0_v0 : Vec F S512x16x128 .f32) (V m c main_call0_v10 : Vec F S128x128 .f32)
      (V m c main_call0_v11 : Vec F S128x128 .f32)) transposes_S512x16_S16x512_1_0

theorem tail_result : Pipeline.afterTail₀ cfgs (dats m) 0 (V0 m) [hostOps1] c main_v0 = answer m c := by
  have e : oblk m c point = Viterbi.pathVal (V m c main_call0_v0 : Vec F S512x16x128 .f32) (V m c main_call0_v10 : Vec F S128x128 .f32)
      (V m c main_call0_v11 : Vec F S128x128 .f32) := by
    unfold oblk
    rw [block_obs, block_scores, block_offsets]
  unfold answer
  rw [← e, ← path_array, ← Pipeline.withArrays_arr spec0 arrRef_injective c (V0 m c) (fun w => (dats m 0 c).arrAt w cfg0.N) 3]
  unfold Pipeline.afterTail₀
  simp only [List.flatten_cons, List.flatten_nil, List.append_nil]
  after_reads_simp
  rfl

/-- Every run ends with the result and the arguments these. -/
theorem run_values : θ_run defs (onTc (τ := τ) (main (F := F))) ⟨m, fun _ => 0, ρ⟩ (fun r => ∀ c : Dev nD,
      r.2.mem ((c.tc : Thread nD τ).loc main_v0) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v0 (Pipeline.mem_restRefs_of main_v0 (by decide) (by decide))).trans (tail_result m c),
     ((h.1 c).2 main_arg0 (Pipeline.mem_restRefs_of main_arg0 (by decide) (by decide))).trans (tail_arg m _ c _ (.inl rfl)),
     ((h.1 c).2 main_arg1 (Pipeline.mem_restRefs_of main_arg1 (by decide) (by decide))).trans (tail_arg m _ c _ (.inr rfl))⟩) (run_named m ρ)

/-- The result at a sequence and a time. -/
theorem answer_apply (n : Fin 16) (t : Fin 512) : answer m c (ix2 n t)
    = Viterbi.asRow (Viterbi.tagVal (V m c main_call0_v0 : Vec F S512x16x128 .f32) (V m c main_call0_v10 : Vec F S128x128 .f32)
        (V m c main_call0_v11 : Vec F S128x128 .f32) (512 - t.val)) (ix2 (0 : Fin 1) n) := rfl

end Cert.KernelIdeal.Run

end
-- ==== Proof.Agree.lean ====
module

public import proofs.«01_k».proof.Defs
public import proofs.«01_k».proof.Proof.RefVal
public import proofs.«01_k».proof.Proof.KernelRead
public import proofs.«01_k».proof.Proof.KernelIdealVal

/-! # The two programs agree

The forward scores agree step by step, as maxima of the same sums; so do the tags going back, as first places of the same
maxima. -/

@[expose] public section

noncomputable section

namespace Cert.Agree

open Idealize.ShloMosaic hiding ix0 ix1 ix2 ix3 ix4
open Idealize.ShloMosaic.ValueIdx Idealize.ShloMosaic.TcCoe
open Idealize.SL.Sem
open Viterbi (IsMax IsFirst SNC SCC SLNC fvVal tagVal)
open Cert.ReferenceIdeal.Read (fv fv_zero fv_succ obs trans tags tags_succ fromTag scores_apply row3_apply argBest_isFirst argLast_isFirst)

section Values

variable (m' : (ℓ : Loc ReferenceIdeal.nD ReferenceIdeal.τ ReferenceIdeal.sig) → Buf (Elt Ideal) ℓ) (c : Dev ReferenceIdeal.nD)
  {T I : Vec Ideal SCC .f32}
  (hT : ∀ d k : Fin 128, (T (ix2 d k) : EReal) = trans m' c (ix2 k (k - d)))
  (hI : ∀ d k : Fin 128, (I (ix2 d k) : EReal) = (((k - d).val : ℝ) : EReal))

/-- The sum whose maximum a step takes, as the reference forms it. -/
theorem sums (n : Fin 16) (k : Fin 128) (f : Vec Ideal SNC .f32) :
    (fun p : Fin 128 => (Cert.ReferenceIdeal.Lines.scores (trans m' c) f (ix3 n k p) : EReal))
      = fun p => (f (ix2 n p) : EReal) + trans m' c (ix2 k p) :=
  funext fun p => scores_apply (trans m' c) f n k p

include hT in
/-- The forward scores. -/
theorem scores_agree : ∀ k, k ≤ 512 → fvVal (obs m' c) T k = fv m' c k
  | 0, _ => by rw [fv_zero]; rfl
  | k + 1, hk => by
    have ih := scores_agree k (Nat.le_of_succ_le hk)
    rw [fv_succ]
    funext i
    rw [ValueIdx.eq_ix2 i]
    generalize i 0 = n
    generalize i 1 = q
    have hb : (Viterbi.bestVal T (fv m' c k) (ix2 n q) : EReal)
        = Cert.ReferenceIdeal.Lines.best (Cert.ReferenceIdeal.Lines.scores (trans m' c) (fv m' c k)) (ix2 n q) := by
      refine (Viterbi.best_isMax (trans := fun k p => trans m' c (ix2 k p)) hT (fv m' c k) n q).unique ?_
      rw [← sums m' c n q (fv m' c k)]
      exact Cert.ReferenceIdeal.Read.best_isMax _ n q
    show (Viterbi.bestVal T (fvVal (obs m' c) T k) (ix2 n q) : EReal) + Viterbi.obsVal (obs m' c) k (ix2 n q) = (_ : EReal) + _
    rw [ih, hb, show Viterbi.obsVal (obs m' c) k (ix2 n q) = obs m' c (ix3 (⟨k, hk⟩ : Fin 512) n q) from
        Viterbi.obsVal_apply (obs m' c) ⟨k, hk⟩ n q,
      ← row3_apply (obs m' c) ⟨k, hk⟩ n q]
    rfl

include hT hI in
/-- The tags going back: the reference's tag and the kernel's are the same small number. -/
theorem tags_agree (n : Fin 16) : ∀ r, r ≤ 512 → ∃ p : Fin 128,
    tagVal (obs m' c) T I r (ix2 n (0 : Fin 1)) = BitVec.ofNat 32 p.val ∧ fromTag m' c r n = BitVec.ofNat 32 p.val
  | 0, _ => by
    obtain ⟨p, hp, hfp⟩ := Viterbi.last_isFirst (fv m' c 512) n
    obtain ⟨q, hq, hfq⟩ := argLast_isFirst (fv m' c 512) n
    refine ⟨p, ?_, ?_⟩
    · show Viterbi.lastTag (fvVal (obs m' c) T 512) (ix2 n (0 : Fin 1)) = _
      rw [scores_agree m' c hT 512 le_rfl, hp]
    · unfold fromTag
      rw [if_pos rfl, hq, hfq.unique hfp]
  | r + 1, hr => by
    obtain ⟨s, hs, hs'⟩ := tags_agree n r (Nat.le_of_succ_le hr)
    obtain ⟨p, hp, hfp⟩ := Viterbi.back_isFirst (trans := fun k p => trans m' c (ix2 k p)) hT hI (fv m' c (511 - r)) n s
    obtain ⟨q, hq, hfq⟩ := argBest_isFirst (Cert.ReferenceIdeal.Lines.scores (trans m' c) (fv m' c (511 - r))) n s
    rw [sums m' c n s (fv m' c (511 - r))] at hfq
    refine ⟨p, ?_, ?_⟩
    · show Viterbi.tagFrom (tagVal (obs m' c) T I r) (Viterbi.backVal T I (fvVal (obs m' c) T (511 - r))) (ix2 n (0 : Fin 1)) = _
      rw [scores_agree m' c hT (511 - r) (by omega)]
      exact Viterbi.tagFrom_apply _ _ n s p hs hp
    · unfold fromTag
      rw [if_neg (Nat.succ_ne_zero r), show tags m' c (r + 1) (ix1 n) = _ from tags_succ m' c ⟨r, hr⟩ n s hs', hq, hfq.unique hfp]

end Values

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- From equal arguments the results are equal. -/
theorem results_agree
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1)) :
    (ReferenceIdeal.Run.Z m' c (Proc.devRef .tc ReferenceIdeal.main_v18) : Vec Ideal KernelIdeal.S16x512 .i32) = KernelIdeal.Run.answer m c := by
  have hO : (KernelIdeal.Run.V m c KernelIdeal.main_call0_v0 : Vec Ideal SLNC .f32) = obs m' c := by
    rw [KernelIdeal.Run.V_obs]
    unfold obs
    rw [← h0]
  have hT : ∀ d k : Fin 128, ((KernelIdeal.Run.V m c KernelIdeal.main_call0_v10 : Vec Ideal SCC .f32) (ix2 d k) : EReal)
      = trans m' c (ix2 k (k - d)) := fun d k => by
    unfold ReferenceIdeal.Read.trans
    rw [h1]
    exact KernelIdeal.Run.V_scores m c d k
  have key : ∀ (n : Fin 16) (t : Fin 512), (ReferenceIdeal.Run.Z m' c (Proc.devRef .tc ReferenceIdeal.main_v18) : Vec Ideal KernelIdeal.S16x512 .i32) (ix2 n t)
      = KernelIdeal.Run.answer m c (ix2 n t) := fun n t => by
    refine (ReferenceIdeal.Read.result_apply m' c n t).trans (Eq.trans ?_ (KernelIdeal.Run.answer_apply m c n t).symm)
    rw [hO, Viterbi.asRow_apply]
    obtain ⟨p, hp, hp'⟩ := tags_agree m' c hT (KernelIdeal.Run.V_offsets c m) n (512 - t.val) (by omega)
    unfold fromTag at hp'
    rw [if_neg (by omega)] at hp'
    exact hp'.trans hp.symm
  funext i
  have e := ValueIdx.eq_ix2 (n0 := 16) (n1 := 512) i
  exact (congrArg _ e).trans ((key _ _).trans (congrArg _ e.symm))

/-- The two programs at the ideal values: from equal arguments both run and return the same path. -/
theorem algebraic : algebraic_KernelIdeal_ReferenceIdeal (hKernelIdeal := Cert.KernelIdeal.Gen.facts) (hReferenceIdeal := Cert.ReferenceIdeal.Gen.facts) :=
  fun m g m' g' _ hargs => ⟨fun c => KernelIdeal.Run.answer m c, KernelIdeal.Run.run_values m g,
    (θ_run _ _ _).mono (fun _ h c => ⟨(h c).1.trans (results_agree m m' c (hargs c).1 (hargs c).2), (h c).2⟩) (ReferenceIdeal.Run.run_values m' g')⟩

end Cert.Agree

end
-- ==== Proof.lean ====
/- Viterbi decode: the claims about the kernel and the reference. -/
module

public import proofs.«01_k».proof.Defs
public import proofs.«01_k».proof.Proof.KernelRun
public import proofs.«01_k».proof.Proof.KernelIdealRun
public import proofs.«01_k».proof.Proof.RefRun
public import proofs.«01_k».proof.Proof.Agree

@[expose] public section

noncomputable section

namespace Cert.Proof

/-- The kernel and the reference run and keep their arguments, and at the ideal values they return the same path. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Run.frame m ρ, trivial, Cert.Agree.algebraic⟩

end Cert.Proof

end
